-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![64, 1024]⟩ ⟨2, ![64, 8192]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 2048]⟩ ⟨2, ![8192, 2048]⟩ 0 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![1024, 2048]⟩ ⟨2, ![8192, 2048]⟩ 0 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![1024, 2048]⟩ ⟨2, ![8192, 2048]⟩ 0 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![2048, 1024]⟩ ⟨2, ![2048, 8192]⟩ 1 8 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.block ⟨2, ![2048, 1024]⟩ ⟨2, ![2048, 8192]⟩ 1 8 c (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.block ⟨2, ![2048, 1024]⟩ ⟨2, ![2048, 8192]⟩ 1 8 c (m' (((0 : Dev Cert.ReferenceIdeal.nD).tc : Thread Cert.ReferenceIdeal.nD Cert.ReferenceIdeal.τ).loc Cert.ReferenceIdeal.main_arg6))) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![64, 1024]⟩ ⟨2, ![64, 8192]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v11) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x1024 : Shape := ⟨2, ![64, 1024]⟩
abbrev S1024x2048 : Shape := ⟨2, ![1024, 2048]⟩
abbrev S2048x1024 : Shape := ⟨2, ![2048, 1024]⟩
abbrev S64x384 : Shape := ⟨2, ![64, 384]⟩
abbrev S64x256 : Shape := ⟨2, ![64, 256]⟩
abbrev S9x64x384 : Shape := ⟨3, ![9, 64, 384]⟩
abbrev S9x64x256 : Shape := ⟨3, ![9, 64, 256]⟩
abbrev S11 : Shape := ⟨1, ![11]⟩
abbrev S6x9 : Shape := ⟨2, ![6, 9]⟩
abbrev S1 : Shape := ⟨1, ![1]⟩
abbrev S_ : Shape := ⟨0, ![]⟩
abbrev S1024x384 : Shape := ⟨2, ![1024, 384]⟩
abbrev S1024x256 : Shape := ⟨2, ![1024, 256]⟩
abbrev S1x1 : Shape := ⟨2, ![1, 1]⟩
abbrev S1x64x384 : Shape := ⟨3, ![1, 64, 384]⟩
abbrev S1x64x256 : Shape := ⟨3, ![1, 64, 256]⟩
abbrev S384x1024 : Shape := ⟨2, ![384, 1024]⟩
abbrev S256x1024 : Shape := ⟨2, ![256, 1024]⟩

abbrev nBuf : Space → Nat
  | .hbm => 8
  | .vmem => 20
  | .smem => 0
  | _ => 0

abbrev bufTy : (tb : Table) → Fin (tcTables nBuf tb) → BufTy
  | .hbm, ⟨0, _⟩ => ⟨S64x1024, .f32⟩
  | .hbm, ⟨1, _⟩ => ⟨S1024x2048, .f32⟩
  | .hbm, ⟨2, _⟩ => ⟨S1024x2048, .f32⟩
  | .hbm, ⟨3, _⟩ => ⟨S1024x2048, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S64x1024, .f32⟩
  | .local _ .vmem, ⟨0, _⟩ => ⟨S64x1024, .f32⟩
  | .local _ .vmem, ⟨1, _⟩ => ⟨S64x1024, .f32⟩
  | .local _ .vmem, ⟨2, _⟩ => ⟨S1024x2048, .f32⟩
  | .local _ .vmem, ⟨3, _⟩ => ⟨S1024x2048, .f32⟩
  | .local _ .vmem, ⟨4, _⟩ => ⟨S1024x2048, .f32⟩
  | .local _ .vmem, ⟨5, _⟩ => ⟨S2048x1024, .f32⟩
  | .local _ .vmem, ⟨6, _⟩ => ⟨S2048x1024, .f32⟩
  | .local _ .vmem, ⟨7, _⟩ => ⟨S2048x1024, .f32⟩
  | .local _ .vmem, ⟨8, _⟩ => ⟨S64x384, .bf16⟩
  | .local _ .vmem, ⟨9, _⟩ => ⟨S64x384, .bf16⟩
  | .local _ .vmem, ⟨10, _⟩ => ⟨S64x384, .bf16⟩
  | .local _ .vmem, ⟨11, _⟩ => ⟨S64x384, .bf16⟩
  | .local _ .vmem, ⟨12, _⟩ => ⟨S64x256, .bf16⟩
  | .local _ .vmem, ⟨13, _⟩ => ⟨S64x256, .bf16⟩
  | .local _ .vmem, ⟨14, _⟩ => ⟨S9x64x384, .bf16⟩
  | .local _ .vmem, ⟨15, _⟩ => ⟨S9x64x384, .bf16⟩
  | .local _ .vmem, ⟨16, _⟩ => ⟨S9x64x384, .bf16⟩
  | .local _ .vmem, ⟨17, _⟩ => ⟨S9x64x384, .bf16⟩
  | .local _ .vmem, ⟨18, _⟩ => ⟨S9x64x256, .bf16⟩
  | .local _ .vmem, ⟨19, _⟩ => ⟨S9x64x256, .bf16⟩
  | _, _ => ⟨S64x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 1 → Bool
  | ⟨0, _⟩ => false
  | _ => false

abbrev dmaSemScoped : Fin 121 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | ⟨114, _⟩ => true
  | ⟨115, _⟩ => true
  | ⟨116, _⟩ => true
  | ⟨117, _⟩ => true
  | ⟨118, _⟩ => true
  | ⟨119, _⟩ => true
  | ⟨120, _⟩ => true
  | _ => false

abbrev sig : RefSig :=
  (ofTc nBuf bufTy 1 121 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_scratch6 : Ref sig .tc := ⟨.vmem, 8, rfl⟩
abbrev cc0_scratch7 : Ref sig .tc := ⟨.vmem, 9, rfl⟩
abbrev cc0_scratch8 : Ref sig .tc := ⟨.vmem, 10, rfl⟩
abbrev cc0_scratch9 : Ref sig .tc := ⟨.vmem, 11, rfl⟩
abbrev cc0_scratch10 : Ref sig .tc := ⟨.vmem, 12, rfl⟩
abbrev cc0_scratch11 : Ref sig .tc := ⟨.vmem, 13, rfl⟩
abbrev cc0_scratch12 : Ref sig .tc := ⟨.vmem, 14, rfl⟩
abbrev cc0_scratch13 : Ref sig .tc := ⟨.vmem, 15, rfl⟩
abbrev cc0_scratch14 : Ref sig .tc := ⟨.vmem, 16, rfl⟩
abbrev cc0_scratch15 : Ref sig .tc := ⟨.vmem, 17, rfl⟩
abbrev cc0_scratch16 : Ref sig .tc := ⟨.vmem, 18, rfl⟩
abbrev cc0_scratch17 : Ref sig .tc := ⟨.vmem, 19, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_24 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_21 : BitVec 32 := 1#32
  let v38 : BitVec 32 := Scalar.xori v2 c1_i32_21
  let c1_i32_23 : BitVec 32 := 1#32
  let v39 : BitVec 32 := Scalar.muli v38 c1_i32_23
  let v40 : BitVec 32 := Scalar.addi c0_i32_24 v39
  v40.toNat
def k0_dev2 (d0 : Dev nD) : Nat :=
  let c0_i32_28 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_25 : BitVec 32 := 3#32
  let v41 : BitVec 32 := Scalar.xori v2 c3_i32_25
  let c1_i32_27 : BitVec 32 := 1#32
  let v42 : BitVec 32 := Scalar.muli v41 c1_i32_27
  let v43 : BitVec 32 := Scalar.addi c0_i32_28 v42
  v43.toNat
def k0_dev3 (d0 : Dev nD) : Nat :=
  let c0_i32_32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_29 : BitVec 32 := 4#32
  let v44 : BitVec 32 := Scalar.xori v2 c4_i32_29
  let c1_i32_31 : BitVec 32 := 1#32
  let v45 : BitVec 32 := Scalar.muli v44 c1_i32_31
  let v46 : BitVec 32 := Scalar.addi c0_i32_32 v45
  v46.toNat
def k0_dev4 (d0 : Dev nD) : Nat :=
  let c0_i32_51 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_44 : BitVec 32 := 1#32
  let v59 : BitVec 32 := Scalar.xori v2 c1_i32_44
  let c1_i32_50 : BitVec 32 := 1#32
  let v60 : BitVec 32 := Scalar.muli v59 c1_i32_50
  let v61 : BitVec 32 := Scalar.addi c0_i32_51 v60
  v61.toNat
def k0_dev5 (d0 : Dev nD) : Nat :=
  let c0_i32_70 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_63 : BitVec 32 := 3#32
  let v78 : BitVec 32 := Scalar.xori v2 c3_i32_63
  let c1_i32_69 : BitVec 32 := 1#32
  let v79 : BitVec 32 := Scalar.muli v78 c1_i32_69
  let v80 : BitVec 32 := Scalar.addi c0_i32_70 v79
  v80.toNat
def k0_dev6 (d0 : Dev nD) : Nat :=
  let c0_i32_89 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_82 : BitVec 32 := 4#32
  let v97 : BitVec 32 := Scalar.xori v2 c4_i32_82
  let c1_i32_88 : BitVec 32 := 1#32
  let v98 : BitVec 32 := Scalar.muli v97 c1_i32_88
  let v99 : BitVec 32 := Scalar.addi c0_i32_89 v98
  v99.toNat
def k0_dev7 (d0 : Dev nD) : Nat :=
  let c0_i32_108 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_101 : BitVec 32 := 1#32
  let v116 : BitVec 32 := Scalar.xori v2 c1_i32_101
  let c1_i32_107 : BitVec 32 := 1#32
  let v117 : BitVec 32 := Scalar.muli v116 c1_i32_107
  let v118 : BitVec 32 := Scalar.addi c0_i32_108 v117
  v118.toNat
def k0_dev8 (d0 : Dev nD) : Nat :=
  let c0_i32_127 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_120 : BitVec 32 := 3#32
  let v135 : BitVec 32 := Scalar.xori v2 c3_i32_120
  let c1_i32_126 : BitVec 32 := 1#32
  let v136 : BitVec 32 := Scalar.muli v135 c1_i32_126
  let v137 : BitVec 32 := Scalar.addi c0_i32_127 v136
  v137.toNat
def k0_dev9 (d0 : Dev nD) : Nat :=
  let c0_i32_146 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_139 : BitVec 32 := 4#32
  let v154 : BitVec 32 := Scalar.xori v2 c4_i32_139
  let c1_i32_145 : BitVec 32 := 1#32
  let v155 : BitVec 32 := Scalar.muli v154 c1_i32_145
  let v156 : BitVec 32 := Scalar.addi c0_i32_146 v155
  v156.toNat
def k0_dev10 (d0 : Dev nD) : Nat :=
  let c0_i32_181 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_174 : BitVec 32 := 3#32
  let v181 : BitVec 32 := Scalar.xori v2 c3_i32_174
  let c1_i32_180 : BitVec 32 := 1#32
  let v182 : BitVec 32 := Scalar.muli v181 c1_i32_180
  let v183 : BitVec 32 := Scalar.addi c0_i32_181 v182
  v183.toNat
def k0_dev11 (d0 : Dev nD) : Nat :=
  let c0_i32_215 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_208 : BitVec 32 := 4#32
  let v207 : BitVec 32 := Scalar.xori v2 c4_i32_208
  let c1_i32_214 : BitVec 32 := 1#32
  let v208 : BitVec 32 := Scalar.muli v207 c1_i32_214
  let v209 : BitVec 32 := Scalar.addi c0_i32_215 v208
  v209.toNat
def k0_dev12 (d0 : Dev nD) : Nat :=
  let c0_i32_249 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_242 : BitVec 32 := 1#32
  let v233 : BitVec 32 := Scalar.xori v2 c1_i32_242
  let c1_i32_248 : BitVec 32 := 1#32
  let v234 : BitVec 32 := Scalar.muli v233 c1_i32_248
  let v235 : BitVec 32 := Scalar.addi c0_i32_249 v234
  v235.toNat
def k0_dev13 (d0 : Dev nD) : Nat :=
  let c0_i32_283 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_276 : BitVec 32 := 3#32
  let v259 : BitVec 32 := Scalar.xori v2 c3_i32_276
  let c1_i32_282 : BitVec 32 := 1#32
  let v260 : BitVec 32 := Scalar.muli v259 c1_i32_282
  let v261 : BitVec 32 := Scalar.addi c0_i32_283 v260
  v261.toNat
def k0_dev14 (d0 : Dev nD) : Nat :=
  let c0_i32_317 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_310 : BitVec 32 := 4#32
  let v285 : BitVec 32 := Scalar.xori v2 c4_i32_310
  let c1_i32_316 : BitVec 32 := 1#32
  let v286 : BitVec 32 := Scalar.muli v285 c1_i32_316
  let v287 : BitVec 32 := Scalar.addi c0_i32_317 v286
  v287.toNat
def k0_dev15 (d0 : Dev nD) : Nat :=
  let c0_i32_351 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_344 : BitVec 32 := 1#32
  let v311 : BitVec 32 := Scalar.xori v2 c1_i32_344
  let c1_i32_350 : BitVec 32 := 1#32
  let v312 : BitVec 32 := Scalar.muli v311 c1_i32_350
  let v313 : BitVec 32 := Scalar.addi c0_i32_351 v312
  v313.toNat
def k0_dev16 (d0 : Dev nD) : Nat :=
  let c0_i32_384 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_377 : BitVec 32 := 4#32
  let v337 : BitVec 32 := Scalar.xori v2 c4_i32_377
  let c1_i32_383 : BitVec 32 := 1#32
  let v338 : BitVec 32 := Scalar.muli v337 c1_i32_383
  let v339 : BitVec 32 := Scalar.addi c0_i32_384 v338
  v339.toNat
def k0_dev17 (d0 : Dev nD) : Nat :=
  let c0_i32_418 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_411 : BitVec 32 := 1#32
  let v363 : BitVec 32 := Scalar.xori v2 c1_i32_411
  let c1_i32_417 : BitVec 32 := 1#32
  let v364 : BitVec 32 := Scalar.muli v363 c1_i32_417
  let v365 : BitVec 32 := Scalar.addi c0_i32_418 v364
  v365.toNat
def k0_dev18 (d0 : Dev nD) : Nat :=
  let c0_i32_452 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_445 : BitVec 32 := 3#32
  let v389 : BitVec 32 := Scalar.xori v2 c3_i32_445
  let c1_i32_451 : BitVec 32 := 1#32
  let v390 : BitVec 32 := Scalar.muli v389 c1_i32_451
  let v391 : BitVec 32 := Scalar.addi c0_i32_452 v390
  v391.toNat
def k0_dev19 (d0 : Dev nD) : Nat :=
  let c0_i32_486 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_479 : BitVec 32 := 4#32
  let v415 : BitVec 32 := Scalar.xori v2 c4_i32_479
  let c1_i32_485 : BitVec 32 := 1#32
  let v416 : BitVec 32 := Scalar.muli v415 c1_i32_485
  let v417 : BitVec 32 := Scalar.addi c0_i32_486 v416
  v417.toNat
def k0_dev20 (d0 : Dev nD) : Nat :=
  let c0_i32_520 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_513 : BitVec 32 := 1#32
  let v441 : BitVec 32 := Scalar.xori v2 c1_i32_513
  let c1_i32_519 : BitVec 32 := 1#32
  let v442 : BitVec 32 := Scalar.muli v441 c1_i32_519
  let v443 : BitVec 32 := Scalar.addi c0_i32_520 v442
  v443.toNat
def k0_dev21 (d0 : Dev nD) : Nat :=
  let c0_i32_554 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_547 : BitVec 32 := 3#32
  let v467 : BitVec 32 := Scalar.xori v2 c3_i32_547
  let c1_i32_553 : BitVec 32 := 1#32
  let v468 : BitVec 32 := Scalar.muli v467 c1_i32_553
  let v469 : BitVec 32 := Scalar.addi c0_i32_554 v468
  v469.toNat
def k0_dev22 (d0 : Dev nD) : Nat :=
  let c0_i32_726 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_719 : BitVec 32 := 1#32
  let v606 : BitVec 32 := Scalar.xori v2 c1_i32_719
  let c1_i32_725 : BitVec 32 := 1#32
  let v607 : BitVec 32 := Scalar.muli v606 c1_i32_725
  let v608 : BitVec 32 := Scalar.addi c0_i32_726 v607
  v608.toNat
def k0_dev23 (d0 : Dev nD) : Nat :=
  let c0_i32_741 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_734 : BitVec 32 := 3#32
  let v621 : BitVec 32 := Scalar.xori v2 c3_i32_734
  let c1_i32_740 : BitVec 32 := 1#32
  let v622 : BitVec 32 := Scalar.muli v621 c1_i32_740
  let v623 : BitVec 32 := Scalar.addi c0_i32_741 v622
  v623.toNat
def k0_dev24 (d0 : Dev nD) : Nat :=
  let c0_i32_756 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_749 : BitVec 32 := 4#32
  let v636 : BitVec 32 := Scalar.xori v2 c4_i32_749
  let c1_i32_755 : BitVec 32 := 1#32
  let v637 : BitVec 32 := Scalar.muli v636 c1_i32_755
  let v638 : BitVec 32 := Scalar.addi c0_i32_756 v637
  v638.toNat
def k0_dev25 (d0 : Dev nD) : Nat :=
  let c0_i32_771 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_764 : BitVec 32 := 1#32
  let v651 : BitVec 32 := Scalar.xori v2 c1_i32_764
  let c1_i32_770 : BitVec 32 := 1#32
  let v652 : BitVec 32 := Scalar.muli v651 c1_i32_770
  let v653 : BitVec 32 := Scalar.addi c0_i32_771 v652
  v653.toNat
def k0_dev26 (d0 : Dev nD) : Nat :=
  let c0_i32_786 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_779 : BitVec 32 := 3#32
  let v666 : BitVec 32 := Scalar.xori v2 c3_i32_779
  let c1_i32_785 : BitVec 32 := 1#32
  let v667 : BitVec 32 := Scalar.muli v666 c1_i32_785
  let v668 : BitVec 32 := Scalar.addi c0_i32_786 v667
  v668.toNat
def k0_dev27 (d0 : Dev nD) : Nat :=
  let c0_i32_801 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_794 : BitVec 32 := 4#32
  let v681 : BitVec 32 := Scalar.xori v2 c4_i32_794
  let c1_i32_800 : BitVec 32 := 1#32
  let v682 : BitVec 32 := Scalar.muli v681 c1_i32_800
  let v683 : BitVec 32 := Scalar.addi c0_i32_801 v682
  v683.toNat
def k0_dev28 (d0 : Dev nD) : Nat :=
  let c0_i32_835 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_828 : BitVec 32 := 3#32
  let v708 : BitVec 32 := Scalar.xori v2 c3_i32_828
  let c1_i32_834 : BitVec 32 := 1#32
  let v709 : BitVec 32 := Scalar.muli v708 c1_i32_834
  let v710 : BitVec 32 := Scalar.addi c0_i32_835 v709
  v710.toNat
def k0_dev29 (d0 : Dev nD) : Nat :=
  let c0_i32_869 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_862 : BitVec 32 := 4#32
  let v734 : BitVec 32 := Scalar.xori v2 c4_i32_862
  let c1_i32_868 : BitVec 32 := 1#32
  let v735 : BitVec 32 := Scalar.muli v734 c1_i32_868
  let v736 : BitVec 32 := Scalar.addi c0_i32_869 v735
  v736.toNat
def k0_dev30 (d0 : Dev nD) : Nat :=
  let c0_i32_903 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_896 : BitVec 32 := 1#32
  let v760 : BitVec 32 := Scalar.xori v2 c1_i32_896
  let c1_i32_902 : BitVec 32 := 1#32
  let v761 : BitVec 32 := Scalar.muli v760 c1_i32_902
  let v762 : BitVec 32 := Scalar.addi c0_i32_903 v761
  v762.toNat
def k0_dev31 (d0 : Dev nD) : Nat :=
  let c0_i32_937 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_930 : BitVec 32 := 3#32
  let v786 : BitVec 32 := Scalar.xori v2 c3_i32_930
  let c1_i32_936 : BitVec 32 := 1#32
  let v787 : BitVec 32 := Scalar.muli v786 c1_i32_936
  let v788 : BitVec 32 := Scalar.addi c0_i32_937 v787
  v788.toNat
def k0_dev32 (d0 : Dev nD) : Nat :=
  let c0_i32_971 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_964 : BitVec 32 := 4#32
  let v812 : BitVec 32 := Scalar.xori v2 c4_i32_964
  let c1_i32_970 : BitVec 32 := 1#32
  let v813 : BitVec 32 := Scalar.muli v812 c1_i32_970
  let v814 : BitVec 32 := Scalar.addi c0_i32_971 v813
  v814.toNat
def k0_dev33 (d0 : Dev nD) : Nat :=
  let c0_i32_1005 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_998 : BitVec 32 := 1#32
  let v838 : BitVec 32 := Scalar.xori v2 c1_i32_998
  let c1_i32_1004 : BitVec 32 := 1#32
  let v839 : BitVec 32 := Scalar.muli v838 c1_i32_1004
  let v840 : BitVec 32 := Scalar.addi c0_i32_1005 v839
  v840.toNat
def k0_dev34 (d0 : Dev nD) : Nat :=
  let c0_i32_1038 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1031 : BitVec 32 := 4#32
  let v864 : BitVec 32 := Scalar.xori v2 c4_i32_1031
  let c1_i32_1037 : BitVec 32 := 1#32
  let v865 : BitVec 32 := Scalar.muli v864 c1_i32_1037
  let v866 : BitVec 32 := Scalar.addi c0_i32_1038 v865
  v866.toNat
def k0_dev35 (d0 : Dev nD) : Nat :=
  let c0_i32_1072 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1065 : BitVec 32 := 1#32
  let v890 : BitVec 32 := Scalar.xori v2 c1_i32_1065
  let c1_i32_1071 : BitVec 32 := 1#32
  let v891 : BitVec 32 := Scalar.muli v890 c1_i32_1071
  let v892 : BitVec 32 := Scalar.addi c0_i32_1072 v891
  v892.toNat
def k0_dev36 (d0 : Dev nD) : Nat :=
  let c0_i32_1106 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1099 : BitVec 32 := 3#32
  let v916 : BitVec 32 := Scalar.xori v2 c3_i32_1099
  let c1_i32_1105 : BitVec 32 := 1#32
  let v917 : BitVec 32 := Scalar.muli v916 c1_i32_1105
  let v918 : BitVec 32 := Scalar.addi c0_i32_1106 v917
  v918.toNat
def k0_dev37 (d0 : Dev nD) : Nat :=
  let c0_i32_1140 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1133 : BitVec 32 := 4#32
  let v942 : BitVec 32 := Scalar.xori v2 c4_i32_1133
  let c1_i32_1139 : BitVec 32 := 1#32
  let v943 : BitVec 32 := Scalar.muli v942 c1_i32_1139
  let v944 : BitVec 32 := Scalar.addi c0_i32_1140 v943
  v944.toNat
def k0_dev38 (d0 : Dev nD) : Nat :=
  let c0_i32_1174 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1167 : BitVec 32 := 1#32
  let v968 : BitVec 32 := Scalar.xori v2 c1_i32_1167
  let c1_i32_1173 : BitVec 32 := 1#32
  let v969 : BitVec 32 := Scalar.muli v968 c1_i32_1173
  let v970 : BitVec 32 := Scalar.addi c0_i32_1174 v969
  v970.toNat
def k0_dev39 (d0 : Dev nD) : Nat :=
  let c0_i32_1208 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1201 : BitVec 32 := 3#32
  let v994 : BitVec 32 := Scalar.xori v2 c3_i32_1201
  let c1_i32_1207 : BitVec 32 := 1#32
  let v995 : BitVec 32 := Scalar.muli v994 c1_i32_1207
  let v996 : BitVec 32 := Scalar.addi c0_i32_1208 v995
  v996.toNat
def k0_dev40 (d0 : Dev nD) : Nat :=
  let c0_i32_1380 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1373 : BitVec 32 := 1#32
  let v1133 : BitVec 32 := Scalar.xori v2 c1_i32_1373
  let c1_i32_1379 : BitVec 32 := 1#32
  let v1134 : BitVec 32 := Scalar.muli v1133 c1_i32_1379
  let v1135 : BitVec 32 := Scalar.addi c0_i32_1380 v1134
  v1135.toNat
def k0_dev41 (d0 : Dev nD) : Nat :=
  let c0_i32_1395 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1388 : BitVec 32 := 3#32
  let v1148 : BitVec 32 := Scalar.xori v2 c3_i32_1388
  let c1_i32_1394 : BitVec 32 := 1#32
  let v1149 : BitVec 32 := Scalar.muli v1148 c1_i32_1394
  let v1150 : BitVec 32 := Scalar.addi c0_i32_1395 v1149
  v1150.toNat
def k0_dev42 (d0 : Dev nD) : Nat :=
  let c0_i32_1410 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1403 : BitVec 32 := 4#32
  let v1163 : BitVec 32 := Scalar.xori v2 c4_i32_1403
  let c1_i32_1409 : BitVec 32 := 1#32
  let v1164 : BitVec 32 := Scalar.muli v1163 c1_i32_1409
  let v1165 : BitVec 32 := Scalar.addi c0_i32_1410 v1164
  v1165.toNat
def k0_dev43 (d0 : Dev nD) : Nat :=
  let c0_i32_1425 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1418 : BitVec 32 := 1#32
  let v1178 : BitVec 32 := Scalar.xori v2 c1_i32_1418
  let c1_i32_1424 : BitVec 32 := 1#32
  let v1179 : BitVec 32 := Scalar.muli v1178 c1_i32_1424
  let v1180 : BitVec 32 := Scalar.addi c0_i32_1425 v1179
  v1180.toNat
def k0_dev44 (d0 : Dev nD) : Nat :=
  let c0_i32_1440 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1433 : BitVec 32 := 3#32
  let v1193 : BitVec 32 := Scalar.xori v2 c3_i32_1433
  let c1_i32_1439 : BitVec 32 := 1#32
  let v1194 : BitVec 32 := Scalar.muli v1193 c1_i32_1439
  let v1195 : BitVec 32 := Scalar.addi c0_i32_1440 v1194
  v1195.toNat
def k0_dev45 (d0 : Dev nD) : Nat :=
  let c0_i32_1455 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1448 : BitVec 32 := 4#32
  let v1208 : BitVec 32 := Scalar.xori v2 c4_i32_1448
  let c1_i32_1454 : BitVec 32 := 1#32
  let v1209 : BitVec 32 := Scalar.muli v1208 c1_i32_1454
  let v1210 : BitVec 32 := Scalar.addi c0_i32_1455 v1209
  v1210.toNat
def k0_dev46 (d0 : Dev nD) : Nat :=
  let c0_i32_1489 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1482 : BitVec 32 := 3#32
  let v1235 : BitVec 32 := Scalar.xori v2 c3_i32_1482
  let c1_i32_1488 : BitVec 32 := 1#32
  let v1236 : BitVec 32 := Scalar.muli v1235 c1_i32_1488
  let v1237 : BitVec 32 := Scalar.addi c0_i32_1489 v1236
  v1237.toNat
def k0_dev47 (d0 : Dev nD) : Nat :=
  let c0_i32_1523 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1516 : BitVec 32 := 4#32
  let v1261 : BitVec 32 := Scalar.xori v2 c4_i32_1516
  let c1_i32_1522 : BitVec 32 := 1#32
  let v1262 : BitVec 32 := Scalar.muli v1261 c1_i32_1522
  let v1263 : BitVec 32 := Scalar.addi c0_i32_1523 v1262
  v1263.toNat
def k0_dev48 (d0 : Dev nD) : Nat :=
  let c0_i32_1557 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1550 : BitVec 32 := 1#32
  let v1287 : BitVec 32 := Scalar.xori v2 c1_i32_1550
  let c1_i32_1556 : BitVec 32 := 1#32
  let v1288 : BitVec 32 := Scalar.muli v1287 c1_i32_1556
  let v1289 : BitVec 32 := Scalar.addi c0_i32_1557 v1288
  v1289.toNat
def k0_dev49 (d0 : Dev nD) : Nat :=
  let c0_i32_1591 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1584 : BitVec 32 := 3#32
  let v1313 : BitVec 32 := Scalar.xori v2 c3_i32_1584
  let c1_i32_1590 : BitVec 32 := 1#32
  let v1314 : BitVec 32 := Scalar.muli v1313 c1_i32_1590
  let v1315 : BitVec 32 := Scalar.addi c0_i32_1591 v1314
  v1315.toNat
def k0_dev50 (d0 : Dev nD) : Nat :=
  let c0_i32_1625 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1618 : BitVec 32 := 4#32
  let v1339 : BitVec 32 := Scalar.xori v2 c4_i32_1618
  let c1_i32_1624 : BitVec 32 := 1#32
  let v1340 : BitVec 32 := Scalar.muli v1339 c1_i32_1624
  let v1341 : BitVec 32 := Scalar.addi c0_i32_1625 v1340
  v1341.toNat
def k0_dev51 (d0 : Dev nD) : Nat :=
  let c0_i32_1659 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1652 : BitVec 32 := 1#32
  let v1365 : BitVec 32 := Scalar.xori v2 c1_i32_1652
  let c1_i32_1658 : BitVec 32 := 1#32
  let v1366 : BitVec 32 := Scalar.muli v1365 c1_i32_1658
  let v1367 : BitVec 32 := Scalar.addi c0_i32_1659 v1366
  v1367.toNat
def k0_dev52 (d0 : Dev nD) : Nat :=
  let c0_i32_1692 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1685 : BitVec 32 := 4#32
  let v1391 : BitVec 32 := Scalar.xori v2 c4_i32_1685
  let c1_i32_1691 : BitVec 32 := 1#32
  let v1392 : BitVec 32 := Scalar.muli v1391 c1_i32_1691
  let v1393 : BitVec 32 := Scalar.addi c0_i32_1692 v1392
  v1393.toNat
def k0_dev53 (d0 : Dev nD) : Nat :=
  let c0_i32_1726 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1719 : BitVec 32 := 1#32
  let v1417 : BitVec 32 := Scalar.xori v2 c1_i32_1719
  let c1_i32_1725 : BitVec 32 := 1#32
  let v1418 : BitVec 32 := Scalar.muli v1417 c1_i32_1725
  let v1419 : BitVec 32 := Scalar.addi c0_i32_1726 v1418
  v1419.toNat
def k0_dev54 (d0 : Dev nD) : Nat :=
  let c0_i32_1760 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1753 : BitVec 32 := 3#32
  let v1443 : BitVec 32 := Scalar.xori v2 c3_i32_1753
  let c1_i32_1759 : BitVec 32 := 1#32
  let v1444 : BitVec 32 := Scalar.muli v1443 c1_i32_1759
  let v1445 : BitVec 32 := Scalar.addi c0_i32_1760 v1444
  v1445.toNat
def k0_dev55 (d0 : Dev nD) : Nat :=
  let c0_i32_1794 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1787 : BitVec 32 := 4#32
  let v1469 : BitVec 32 := Scalar.xori v2 c4_i32_1787
  let c1_i32_1793 : BitVec 32 := 1#32
  let v1470 : BitVec 32 := Scalar.muli v1469 c1_i32_1793
  let v1471 : BitVec 32 := Scalar.addi c0_i32_1794 v1470
  v1471.toNat
def k0_dev56 (d0 : Dev nD) : Nat :=
  let c0_i32_1828 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1821 : BitVec 32 := 1#32
  let v1495 : BitVec 32 := Scalar.xori v2 c1_i32_1821
  let c1_i32_1827 : BitVec 32 := 1#32
  let v1496 : BitVec 32 := Scalar.muli v1495 c1_i32_1827
  let v1497 : BitVec 32 := Scalar.addi c0_i32_1828 v1496
  v1497.toNat
def k0_dev57 (d0 : Dev nD) : Nat :=
  let c0_i32_1862 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1855 : BitVec 32 := 3#32
  let v1521 : BitVec 32 := Scalar.xori v2 c3_i32_1855
  let c1_i32_1861 : BitVec 32 := 1#32
  let v1522 : BitVec 32 := Scalar.muli v1521 c1_i32_1861
  let v1523 : BitVec 32 := Scalar.addi c0_i32_1862 v1522
  v1523.toNat
abbrev stage0_0 : Fin 1 → Memref sig .tc .vmem S64x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S64x8192 : Shape := ⟨2, ![64, 8192]⟩
abbrev S8192x2048 : Shape := ⟨2, ![8192, 2048]⟩
abbrev S2048x8192 : Shape := ⟨2, ![2048, 8192]⟩
abbrev S64x2048 : Shape := ⟨2, ![64, 2048]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S64x8192, .f32⟩
  | .hbm, ⟨1, _⟩ => ⟨S8192x2048, .f32⟩
  | .hbm, ⟨2, _⟩ => ⟨S8192x2048, .f32⟩
  | .hbm, ⟨3, _⟩ => ⟨S8192x2048, .f32⟩
  | .hbm, ⟨4, _⟩ => ⟨S2048x8192, .f32⟩
  | .hbm, ⟨5, _⟩ => ⟨S2048x8192, .f32⟩
  | .hbm, ⟨6, _⟩ => ⟨S2048x8192, .f32⟩
  | .hbm, ⟨7, _⟩ => ⟨S64x2048, .f32⟩
  | .hbm, ⟨8, _⟩ => ⟨S_, .f32⟩
  | .hbm, ⟨9, _⟩ => ⟨S64x2048, .f32⟩
  | .hbm, ⟨10, _⟩ => ⟨S64x2048, .f32⟩
  | .hbm, ⟨11, _⟩ => ⟨S64x8192, .f32⟩
  | .hbm, ⟨12, _⟩ => ⟨S64x2048, .f32⟩
  | .hbm, ⟨13, _⟩ => ⟨S_, .f32⟩
  | .hbm, ⟨14, _⟩ => ⟨S64x2048, .f32⟩
  | .hbm, ⟨15, _⟩ => ⟨S64x2048, .f32⟩
  | .hbm, ⟨16, _⟩ => ⟨S64x8192, .f32⟩
  | .hbm, ⟨17, _⟩ => ⟨S64x2048, .f32⟩
  | .hbm, ⟨18, _⟩ => ⟨S_, .f32⟩
  | .hbm, ⟨19, _⟩ => ⟨S64x2048, .f32⟩
  | .hbm, ⟨20, _⟩ => ⟨S64x2048, .f32⟩
  | .hbm, ⟨21, _⟩ => ⟨S64x8192, .f32⟩
  | _, _ => ⟨S64x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩

abbrev nD : Nat := 1
abbrev τ : Topo := Topo.v7x

variable {F : FTy → Type} [FloatOps F]
-- ==== Proof.Steps.lean ====
/-
# The kernel's body as a composition of a few kinds of step

The printed body is one long straight line. Here it is read as what it is made of: per layer, six column chunks;
per chunk a partial product, three exchanges with three partners, and the chunk's share of the second product.
The chunks differ in width (384 or 256 columns), so the shapes, buffers and contractions are families over the
chunk's number `p : Fin 6`; the layer is `l : Fin 3`, an exchange's slot `i : Fin 9` (three per layer).
`body_eq` says the printed body is this composition.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.Mlp

open Cert.KernelIdeal Cert.KernelIdeal.Gen
open Idealize.ShloMosaic Idealize.ShloMosaic.TcCoe
open Idealize.SL Idealize.SL.Sem

variable {F : FTy → Type} [FloatOps F]

/-! ## Shapes and places of the chunks -/

/-- The width of chunk `p`. -/
abbrev wid : Fin 6 → ℕ
  | 0 => 384 | 1 => 384 | 2 => 384 | 3 => 384 | 4 => 256 | 5 => 256

/-- The first column of chunk `p`. -/
abbrev off : Fin 6 → ℕ
  | 0 => 0 | 1 => 384 | 2 => 768 | 3 => 1152 | 4 => 1536 | 5 => 1792

/-- A chunk's partial sums; its landing slots; one slot; its columns of a first weight; its rows of a second. -/
abbrev SAcc (p : Fin 6) : Shape := ⟨2, ![64, wid p]⟩
abbrev SRecv (p : Fin 6) : Shape := ⟨3, ![9, 64, wid p]⟩
abbrev SSlot (p : Fin 6) : Shape := ⟨3, ![1, 64, wid p]⟩
abbrev SCol (p : Fin 6) : Shape := ⟨2, ![1024, wid p]⟩
abbrev SRow (p : Fin 6) : Shape := ⟨2, ![wid p, 1024]⟩

/-- Chunk `p`'s buffer of partial sums. -/
def accM : (p : Fin 6) → Memref sig .tc .vmem (SAcc p) .bf16
  | 0 => Memref.whole cc0_scratch6 | 1 => Memref.whole cc0_scratch7 | 2 => Memref.whole cc0_scratch8
  | 3 => Memref.whole cc0_scratch9 | 4 => Memref.whole cc0_scratch10 | 5 => Memref.whole cc0_scratch11

/-- Chunk `p`'s nine landing slots. -/
def recvM : (p : Fin 6) → Memref sig .tc .vmem (SRecv p) .bf16
  | 0 => Memref.whole cc0_scratch12 | 1 => Memref.whole cc0_scratch13 | 2 => Memref.whole cc0_scratch14
  | 3 => Memref.whole cc0_scratch15 | 4 => Memref.whole cc0_scratch16 | 5 => Memref.whole cc0_scratch17

/-- Layer `l`'s weights: in fast memory, and where they are copied from. -/
def winM : Fin 3 → Memref sig .tc .vmem S1024x2048 .f32
  | 0 => Memref.whole cc0_scratch0 | 1 => Memref.whole cc0_scratch1 | 2 => Memref.whole cc0_scratch2
def woutM : Fin 3 → Memref sig .tc .vmem S2048x1024 .f32
  | 0 => Memref.whole cc0_scratch3 | 1 => Memref.whole cc0_scratch4 | 2 => Memref.whole cc0_scratch5
def winA : Fin 3 → Memref sig .tc .hbm S1024x2048 .f32
  | 0 => Memref.whole main_arg1 | 1 => Memref.whole main_arg2 | 2 => Memref.whole main_arg3
def woutA : Fin 3 → Memref sig .tc .hbm S2048x1024 .f32
  | 0 => Memref.whole main_arg4 | 1 => Memref.whole main_arg5 | 2 => Memref.whole main_arg6

/-- A chunk's buffer of partial sums is a whole buffer. -/
theorem accW (p : Fin 6) : (accM p).IsWhole := by fin_cases p <;> exact Memref.isWhole_whole _
/-- So are its landing slots together, -/
theorem recvW (p : Fin 6) : (recvM p).IsWhole := by fin_cases p <;> exact Memref.isWhole_whole _
/-- a first weight in fast memory, -/
theorem winMW (l : Fin 3) : (winM l).IsWhole := by fin_cases l <;> exact Memref.isWhole_whole _
/-- a second weight in fast memory, -/
theorem woutMW (l : Fin 3) : (woutM l).IsWhole := by fin_cases l <;> exact Memref.isWhole_whole _
/-- a first weight as an argument, -/
theorem winAW (l : Fin 3) : (winA l).IsWhole := by fin_cases l <;> exact Memref.isWhole_whole _
/-- and a second weight as an argument. -/
theorem woutAW (l : Fin 3) : (woutA l).IsWhole := by fin_cases l <;> exact Memref.isWhole_whole _

/-! ## The rectangles -/

/-- A chunk's columns lie within a first weight. -/
theorem inCol (p : Fin 6) : ∀ a, (![0, off p] : Fin 2 → ℕ) a + (SCol p).size a ≤ S1024x2048.size a := by
  fin_cases p <;> decide
/-- A chunk's rows lie within a second weight. -/
theorem inRow (p : Fin 6) : ∀ a, (![off p, 0] : Fin 2 → ℕ) a + (SRow p).size a ≤ S2048x1024.size a := by
  fin_cases p <;> decide
/-- A chunk's whole buffer lies within itself. -/
theorem inAcc (p : Fin 6) : ∀ a, (![0, 0] : Fin 2 → ℕ) a + (SAcc p).size a ≤ (SAcc p).size a := by
  fin_cases p <;> decide
/-- A slot lies within the landing slots. -/
theorem inSlot (p : Fin 6) (i : Fin 9) : ∀ a, (![i.val, 0, 0] : Fin 3 → ℕ) a + (SSlot p).size a ≤ (SRecv p).size a := by
  fin_cases p <;> fin_cases i <;> decide
/-- The whole input lies within itself. -/
theorem inX : ∀ a, (![0, 0] : Fin 2 → ℕ) a + S64x1024.size a ≤ S64x1024.size a := by decide

/-- Chunk `p`'s columns of a first weight, its rows of a second, its whole buffer, slot `i` of its landing slots. -/
abbrev colR (p : Fin 6) : Rect S1024x2048 := Rect.unit (s := S1024x2048) ![0, off p] (SCol p).size (inCol p)
abbrev rowR (p : Fin 6) : Rect S2048x1024 := Rect.unit (s := S2048x1024) ![off p, 0] (SRow p).size (inRow p)
abbrev accR (p : Fin 6) : Rect (SAcc p) := Rect.unit (s := SAcc p) ![0, 0] (SAcc p).size (inAcc p)
abbrev slotR (p : Fin 6) (i : Fin 9) : Rect (SRecv p) := Rect.unit (s := SRecv p) ![i.val, 0, 0] (SSlot p).size (inSlot p i)
abbrev xR : Rect S64x1024 := Rect.unit (s := S64x1024) ![0, 0] S64x1024.size inX

/-- A chunk of a first weight has elements. -/
theorem posCol (p : Fin 6) : 0 < (SCol p).numel := by fin_cases p <;> decide
/-- A chunk of a second weight has elements. -/
theorem posRow (p : Fin 6) : 0 < (SRow p).numel := by fin_cases p <;> decide
/-- A chunk's buffer has elements. -/
theorem posAcc (p : Fin 6) : 0 < (SAcc p).numel := by fin_cases p <;> decide
/-- A slot has elements. -/
theorem posSlot (p : Fin 6) : 0 < (SSlot p).numel := by fin_cases p <;> decide
/-- A chunk's shape casts to itself. -/
theorem castAcc (p : Fin 6) : (SAcc p).ShapeCasts (SAcc p) := by fin_cases p <;> decide
/-- A slot casts to a chunk's shape. -/
theorem castSlot (p : Fin 6) : (SSlot p).ShapeCasts (SAcc p) := by fin_cases p <;> decide
/-- A slot without its unit axis has a chunk's shape. -/
theorem sqSlot (p : Fin 6) : (SSlot p).Squeezes (SAcc p) := by fin_cases p <;> decide
/-- A chunk's buffer is stored in whole rows of packed pairs. -/
theorem packAcc (p : Fin 6) : (accR p).PackedRows (EltTy.packing .bf16) := by
  fin_cases p
  all_goals first | exact packedbf16_S64x384_S64x384_0_0 | exact packedbf16_S64x256_S64x256_0_0
/-- A slot is whole words. -/
theorem wordsSlot (p : Fin 6) (i : Fin 9) : (slotR p i).WholeWords (EltTy.packing .bf16) := by
  fin_cases p <;> fin_cases i <;> decide +kernel

/-! ## Semaphores and partners -/

/-- Slot `i` of chunk `p`'s landing slots, as a transfer addresses it. -/
abbrev slotM (p : Fin 6) (i : Fin 9) : Memref sig .tc .vmem (SAcc p) .bf16 :=
  ((recvM p).slice (slotR p i) (fun _ => rfl)).squeeze (SAcc p) (sqSlot p)

/-- So a transfer of it moves exactly its words. -/
theorem slotWE (p : Fin 6) (i : Fin 9) : (slotM p i).view.WordExact :=
  ((recvW p).wordExact_slice rfl _ (wordsSlot p i)).reshape _ _

/-- The semaphores: local copy `k`, exchange `(p, i)` at its sender and at its receiver, the barrier. -/
def cpS (k : Fin 11) : DmaSem sig := ⟨2 + k.val, by have := k.isLt; show _ < 121; omega⟩
def sndS (p : Fin 6) (i : Fin 9) : DmaSem sig :=
  ⟨13 + (9 * p.val + i.val), by have := p.isLt; have := i.isLt; show _ < 121; omega⟩
def rcvS (p : Fin 6) (i : Fin 9) : DmaSem sig :=
  ⟨67 + (9 * p.val + i.val), by have := p.isLt; have := i.isLt; show _ < 121; omega⟩
def barS : Sem sig := (SemArray.scalar (sig.barrier 0 rfl) : Sems sig S_).sem

/-- The device a word `w` away in the sense of exclusive or, as the kernel computes it. -/
def tgtN (w : BitVec 32) (d : Dev nD) : ℕ :=
  (Scalar.addi 0#32 (Scalar.muli (Scalar.xori (Scalar.remsi (Scalar.divsi (Dev.word d) 1#32) 8#32) w) 1#32)).toNat

/-- The three words, and the order in which chunk `p` goes through them. -/
def msk : Fin 6 → Fin 3 → BitVec 32
  | 0, 0 => 1#32 | 0, 1 => 3#32 | 0, 2 => 4#32
  | 1, 0 => 3#32 | 1, 1 => 4#32 | 1, 2 => 1#32
  | 2, 0 => 4#32 | 2, 1 => 1#32 | 2, 2 => 3#32
  | 3, 0 => 1#32 | 3, 1 => 3#32 | 3, 2 => 4#32
  | 4, 0 => 3#32 | 4, 1 => 4#32 | 4, 2 => 1#32
  | 5, 0 => 4#32 | 5, 1 => 1#32 | 5, 2 => 3#32
def mskB : Fin 3 → BitVec 32 | 0 => 1#32 | 1 => 3#32 | 2 => 4#32

/-- A partner is a device. -/
theorem tgt_lt (p : Fin 6) (s : Fin 3) (d : Dev nD) : tgtN (msk p s) d < nD := by revert p s d; decide +kernel
/-- A partner signalled is a device. -/
theorem tgtB_lt (b : Fin 3) (d : Dev nD) : tgtN (mskB b) d < nD := by revert b d; decide +kernel

/-- Chunk `p`'s partner of a device at step `s`; the partner signalled `b`-th. -/
def tgt (p : Fin 6) (s : Fin 3) (d : Dev nD) : Dev nD := ⟨tgtN (msk p s) d, tgt_lt p s d⟩
def tgtB (b : Fin 3) (d : Dev nD) : Dev nD := ⟨tgtN (mskB b) d, tgtB_lt b d⟩

/-- The slot of step `s` of layer `l`. -/
abbrev slt (l s : Fin 3) : Fin 9 := ⟨3 * l.val + s.val, by have := l.isLt; have := s.isLt; omega⟩

/-! ## The pure parts -/

/-- The two products' contractions. -/
def dotA : (p : Fin 6) → DotDims S64x1024 (SCol p) (SAcc p)
  | 0 => dot_S64x1024_S1024x384_S64x384_1_0_0_1_n_n | 1 => dot_S64x1024_S1024x384_S64x384_1_0_0_1_n_n
  | 2 => dot_S64x1024_S1024x384_S64x384_1_0_0_1_n_n | 3 => dot_S64x1024_S1024x384_S64x384_1_0_0_1_n_n
  | 4 => dot_S64x1024_S1024x256_S64x256_1_0_0_1_n_n | 5 => dot_S64x1024_S1024x256_S64x256_1_0_0_1_n_n
def dotB : (p : Fin 6) → DotDims (SAcc p) (SRow p) S64x1024
  | 0 => dot_S64x384_S384x1024_S64x1024_1_0_0_1_n_n | 1 => dot_S64x384_S384x1024_S64x1024_1_0_0_1_n_n
  | 2 => dot_S64x384_S384x1024_S64x1024_1_0_0_1_n_n | 3 => dot_S64x384_S384x1024_S64x1024_1_0_0_1_n_n
  | 4 => dot_S64x256_S256x1024_S64x1024_1_0_0_1_n_n | 5 => dot_S64x256_S256x1024_S64x1024_1_0_0_1_n_n

/-- The partial product of a device's columns of the input with its rows of the weight's chunk. -/
def part (p : Fin 6) (x : FVec F S64x1024 .f32) (w : FVec F (SCol p) .f32) : FVec F (SAcc p) .bf16 :=
  shapeCast (SAcc p) (truncf .bf16 (matmul (dotA p) none x w (constant (SAcc p) .f32 0x00000000#32)) bitsLt_bf16_f32) (castAcc p)

/-- A partial sum plus what came in. -/
def plus (p : Fin 6) (a : FVec F (SAcc p) .bf16) (r : FVec F (SSlot p) .bf16) : FVec F (SAcc p) .bf16 :=
  addf a (shapeCast (SAcc p) r (castSlot p))

/-- The whole sum clamped below at zero. -/
def hid (p : Fin 6) (a : FVec F (SAcc p) .bf16) (r : FVec F (SSlot p) .bf16) : FVec F (SAcc p) .f32 :=
  extf .f32 (maximumf (plus p a r) (broadcast (SAcc p) (Scalar.ofBits .bf16 0x0000#16))) bitsLt_bf16_f32

/-- Chunk `p`'s share of the second product added to what the chunks before it made. -/
def accum (p : Fin 6) (y : FVec F S64x1024 .f32) (h : FVec F (SAcc p) .f32) (w : FVec F (SRow p) .f32) : FVec F S64x1024 .f32 :=
  addf y (matmul (dotB p) none h w (constant S64x1024 .f32 0x00000000#32))

/-- The zero the second product starts from. -/
def zeroX : FVec F S64x1024 .f32 := broadcast S64x1024 (Scalar.ofBits .f32 0x00000000#32)

/-- The input, read. -/
def inp (v : FVec F S64x1024 .f32) : FVec F S64x1024 .f32 := shapeCast S64x1024 v shapeCasts_S64x1024_S64x1024

/-! ## The steps -/

/-- A program of the kernel. -/
abbrev Pg (F : FTy → Type) := Prog (TpuEff nD τ sig (Elt F) Λ₀ .tc)

/-- Start the copy of chunk `p` of the first layer's first weight; wait for it. -/
def cpCol (p : Fin 6) : Pg F PUnit :=
  .op (.enqueueDma ((winA 0).slice (colR p) (fun _ => rfl)) (.here ((winM 0).slice (colR p) (fun _ => rfl)))
    (.dma (cpS (Fin.castLE (by decide) p))) (View.wordExact_bits rfl) (View.wordExact_bits rfl) ⟨Or.inl rfl, trivial⟩) .ret
def wtCol (p : Fin 6) : Pg F PUnit :=
  .op (.waitDma2 (cpS (Fin.castLE (by decide) p)) ((winA 0).slice (colR p) (fun _ => rfl)) ((winM 0).slice (colR p) (fun _ => rfl))
    (View.wordExact_bits rfl) (View.wordExact_bits rfl)) .ret

/-- The copy semaphores of layer `l`'s whole weights. -/
abbrev kWin : Fin 3 → Fin 11 | 0 => 0 | 1 => 7 | 2 => 9
abbrev kWout : Fin 3 → Fin 11 | 0 => 6 | 1 => 8 | 2 => 10

/-- Start the copy of layer `l`'s first weight whole; wait for it. The same of its second weight. -/
def cpWin (l : Fin 3) : Pg F PUnit :=
  .op (.enqueueDma (winA l) (.here (winM l)) (.dma (cpS (kWin l))) (winAW l).wordExact (winMW l).wordExact ⟨Or.inl rfl, trivial⟩) .ret
def wtWin (l : Fin 3) : Pg F PUnit :=
  .op (.waitDma2 (cpS (kWin l)) (winA l) (winM l) (winAW l).wordExact (winMW l).wordExact) .ret
def cpWout (l : Fin 3) : Pg F PUnit :=
  .op (.enqueueDma (woutA l) (.here (woutM l)) (.dma (cpS (kWout l))) (woutAW l).wordExact (woutMW l).wordExact ⟨Or.inl rfl, trivial⟩) .ret
def wtWout (l : Fin 3) : Pg F PUnit :=
  .op (.waitDma2 (cpS (kWout l)) (woutA l) (woutM l) (woutAW l).wordExact (woutMW l).wordExact) .ret

/-- Signal the `b`-th partner's barrier; wait for the three signals on one's own. -/
def sgn (d : Dev nD) (b : Fin 3) : Pg F PUnit := semSignalWord (tgtB b d) barS 1#32
def wtBar : Pg F PUnit := semWaitWord barS 3#32

/-- Store a chunk's partial sums (the buffer is read first, the reading unused). -/
def stAcc (p : Fin 6) (v : FVec F (SAcc p) .bf16) : Pg F PUnit :=
  Prog.op (TpuEff.load (e := .bf16) (accM p) (accR p).toLoadRect (View.loadsAt_vmem (posAcc p))) fun _ =>
  .op (.store (accM p) (accR p) v Finset.univ
    (View.stores_vmem (posAcc p) ((accW p).storeExact_slice rfl _ (packAcc p)) (fun _ => rfl)) (.inl rfl)) .ret

/-- Make a chunk's partial product of layer `l`. -/
def mkPart (l : Fin 3) (p : Fin 6) (x : FVec F S64x1024 .f32) : Pg F PUnit :=
  Prog.op (TpuEff.load (e := .f32) (winM l) (colR p).toLoadRect (View.loadsAt_vmem (posCol p))) fun (w : FVec F (SCol p) .f32) => stAcc p (part p x w)

/-- Send a chunk's partial sums to the partner of step `s`. -/
def snd (d : Dev nD) (l s : Fin 3) (p : Fin 6) : Pg F PUnit :=
  .op (.enqueueDma (accM p) (.remote (Dev.tc (tgt p s d)) (slotM p (slt l s)) (.dma (sndS p (slt l s))))
    (.dma (rcvS p (slt l s))) (accW p).wordExact (slotWE p _) ⟨⟨rfl, Or.inl rfl⟩, trivial⟩) .ret

/-- Wait for the sending and for the arrival of step `s`. -/
def wtEx (l s : Fin 3) (p : Fin 6) : Pg F PUnit :=
  .op (.waitDma2 (sndS p (slt l s)) (slotM p (slt l s)) (accM p) (slotWE p _) (accW p).wordExact) fun _ =>
  .op (.waitDma2 (rcvS p (slt l s)) (accM p) (slotM p (slt l s)) (accW p).wordExact (slotWE p _)) .ret

/-- Read a chunk's partial sums and what arrived at step `s`. -/
def rdEx {α : Type} (l s : Fin 3) (p : Fin 6) (k : FVec F (SAcc p) .bf16 → FVec F (SSlot p) .bf16 → Pg F α) : Pg F α :=
  Prog.op (TpuEff.load (e := .bf16) (accM p) (accR p).toLoadRect (View.loadsAt_vmem (posAcc p))) fun (a : FVec F (SAcc p) .bf16) =>
  Prog.op (TpuEff.load (e := .bf16) (recvM p) (slotR p (slt l s)).toLoadRect (View.loadsAt_vmem (posSlot p))) fun (r : FVec F (SSlot p) .bf16) => k a r

/-- Add what arrived at step `s`. -/
def addEx (l s : Fin 3) (p : Fin 6) : Pg F PUnit :=
  rdEx l s p fun a r => stAcc p (shapeCast (SAcc p) (plus p a r) (castAcc p))

/-- Finish a chunk: the last addition, the clamp, and its share of the second product. -/
def fin (l : Fin 3) (p : Fin 6) (y : FVec F S64x1024 .f32) : Pg F (FVec F S64x1024 .f32) :=
  rdEx l 2 p fun a r =>
  Prog.op (TpuEff.load (e := .f32) (woutM l) (rowR p).toLoadRect (View.loadsAt_vmem (posRow p))) fun (w : FVec F (SRow p) .f32) => .ret (accum p y (hid p a r) w)

/-! ## The phases -/

/-- The first exchange started: chunk `p` of a layer. -/
def ph0 (d : Dev nD) (l : Fin 3) (p : Fin 6) (x : FVec F S64x1024 .f32) : Pg F PUnit := do
  mkPart l p x; snd d l 0 p
/-- The step `s`'s exchange ended and the next one's started. -/
def ph1 (d : Dev nD) (l s s' : Fin 3) (p : Fin 6) : Pg F PUnit := do
  wtEx l s p; addEx l s p; snd d l s' p
/-- The last exchange ended and the chunk finished. -/
def ph2 (l : Fin 3) (p : Fin 6) (y : FVec F S64x1024 .f32) : Pg F (FVec F S64x1024 .f32) := do
  wtEx l 2 p; fin l p y

/-- The three phases over the six chunks, for a layer whose first exchanges are started. -/
def phs1 (d : Dev nD) (l s s' : Fin 3) : Pg F PUnit := do
  ph1 d l s s' 0; ph1 d l s s' 1; ph1 d l s s' 2; ph1 d l s s' 3; ph1 d l s s' 4; ph1 d l s s' 5
def phs2 (l : Fin 3) : Pg F (FVec F S64x1024 .f32) := do
  wtEx l 2 0; wtWout l
  let y ← fin l 0 zeroX
  let y ← ph2 l 1 y
  let y ← ph2 l 2 y
  let y ← ph2 l 3 y
  let y ← ph2 l 4 y
  ph2 l 5 y
def rest (d : Dev nD) (l : Fin 3) : Pg F (FVec F S64x1024 .f32) := do
  phs1 d l 0 1; phs1 d l 1 2; phs2 l

/-- The first exchanges of the first layer: each chunk's copy awaited first, the partners after the first product. -/
def open0 (d : Dev nD) (x : FVec F S64x1024 .f32) : Pg F PUnit := do
  wtCol 0; mkPart 0 0 x; wtBar; snd d 0 0 0
  wtCol 1; ph0 d 0 1 x
  wtCol 2; ph0 d 0 2 x
  wtCol 3; ph0 d 0 3 x
  wtCol 4; ph0 d 0 4 x
  wtCol 5; ph0 d 0 5 x
/-- Those of a later layer. -/
def open1 (d : Dev nD) (l : Fin 3) (x : FVec F S64x1024 .f32) : Pg F PUnit := do
  wtWin l; ph0 d l 0 x; ph0 d l 1 x; ph0 d l 2 x; ph0 d l 3 x; ph0 d l 4 x; ph0 d l 5 x

/-- All the local copies started. -/
def copies : Pg F PUnit := do
  cpCol 0; cpCol 1; cpCol 2; cpCol 3; cpCol 4; cpCol 5
  cpWout 0; cpWin 1; cpWout 1; cpWin 2; cpWout 2

/-- The body, from the device it runs on. -/
def body (xM oM : Memref sig .tc .vmem S64x1024 .f32) : Pg F PUnit :=
  .op .deviceId fun d => do
    copies
    sgn d 0; sgn d 1; sgn d 2
    let v : FVec F S64x1024 .f32 ← Prog.op (.load xM xR.toLoadRect (View.loadsAt_vmem h_S64x1024)) .ret
    open0 d (inp v)
    let x ← rest d 0
    open1 d 1 x
    let x ← rest d 1
    open1 d 2 x
    let x ← rest d 2
    Prog.op (.load oM xR.toLoadRect (View.loadsAt_vmem h_S64x1024)) fun _ =>
      .op (.store oM xR x Finset.univ (View.stores_vmem_bits_univ h_S64x1024 rfl) (.inl rfl)) .ret

/-- The printed body is the composition. -/
theorem body_eq (t : Fin cfg0.N) : bodyAt0 (F := F) t = body (win0_0.stage (cfg0.slots t 0)) (win0_1.stage (cfg0.slots t 1)) := by
  chain_rfl

end Cert.Mlp

end
-- ==== Proof.Values.lean ====
/-
# What each buffer holds along the kernel's run

The arrays each device starts from, the partial sums a chunk goes through as it is exchanged, and the layers' results,
all as functions of the memory at launch. A chunk's sum after `s` exchanges on a device is its sum before the last of
them plus the partner's.
-/
module

public import proofs.«01_k».proof.Proof.Steps

@[expose] public section

noncomputable section

namespace Cert.Mlp

open Cert.KernelIdeal Cert.KernelIdeal.Gen
open Idealize.ShloMosaic Idealize.ShloMosaic.TcCoe

variable {F : FTy → Type} [FloatOps F]

/-! ## Indices -/

/-- The layer and the step a slot belongs to. -/
def lay (i : Fin 9) : Fin 3 := ⟨i.val / 3, by have := i.isLt; omega⟩
def stp (i : Fin 9) : Fin 3 := ⟨i.val % 3, by omega⟩

/-- The layer of a layer's slot is that layer. -/
theorem lay_slt (l s : Fin 3) : lay (slt l s) = l := by revert l s; decide
/-- The step of a step's slot is that step. -/
theorem stp_slt (l s : Fin 3) : stp (slt l s) = s := by revert l s; decide

/-- Being partners is mutual, -/
theorem tgt_tgt (p : Fin 6) (s : Fin 3) (c : Dev nD) : tgt p s (tgt p s c) = c := by revert p s c; decide +kernel
/-- as it is for the partners signalled. -/
theorem tgtB_tgtB (b : Fin 3) (c : Dev nD) : tgtB b (tgtB b c) = c := by revert b c; decide +kernel

/-! ## One chunk's sums -/

/-- The sum of chunk `p` on a device after `s` exchanges, from the devices' partial products `a`. -/
def sumV (p : Fin 6) (a : Dev nD → FVec F (SAcc p) .bf16) : ℕ → Dev nD → FVec F (SAcc p) .bf16
  | 0, c => a c
  | s + 1, c => shapeCast (SAcc p) (addf (sumV p a s c) (sumV p a s (tgt p (Fin.ofNat 3 s) c))) (castAcc p)

/-- The columns of chunk `p` of a first weight, its rows of a second. -/
def colOf (p : Fin 6) (w : FVec F S1024x2048 .f32) : FVec F (SCol p) .f32 := fun j => w ((colR p).emb j)
def rowOf (p : Fin 6) (w : FVec F S2048x1024 .f32) : FVec F (SRow p) .f32 := fun j => w ((rowR p).emb j)

/-- The devices' partial products of chunk `p`, from their inputs and first weights. -/
def partV (p : Fin 6) (x : Dev nD → FVec F S64x1024 .f32) (w : Dev nD → FVec F S1024x2048 .f32) (c : Dev nD) : FVec F (SAcc p) .bf16 :=
  part p (x c) (colOf p (w c))

/-- Chunk `p` of the hidden layer: two sums added and clamped. -/
def hidV (p : Fin 6) (a b : FVec F (SAcc p) .bf16) : FVec F (SAcc p) .f32 :=
  extf .f32 (maximumf (addf a b) (broadcast (SAcc p) (Scalar.ofBits .bf16 0x0000#16))) bitsLt_bf16_f32

/-- Chunk `p` of the hidden layer on a device. -/
def hidC (p : Fin 6) (x : Dev nD → FVec F S64x1024 .f32) (w : Dev nD → FVec F S1024x2048 .f32) (c : Dev nD) : FVec F (SAcc p) .f32 :=
  hidV p (sumV p (partV p x w) 2 c) (sumV p (partV p x w) 2 (tgt p 2 c))

/-- A device's second product after its first `n` chunks. -/
def accV (x : Dev nD → FVec F S64x1024 .f32) (w : Dev nD → FVec F S1024x2048 .f32) (v : Dev nD → FVec F S2048x1024 .f32) (c : Dev nD) :
    (n : ℕ) → n ≤ 6 → FVec F S64x1024 .f32
  | 0, _ => zeroX
  | n + 1, h => accum ⟨n, h⟩ (accV x w v c n (Nat.le_of_succ_le h)) (hidC ⟨n, h⟩ x w c) (rowOf ⟨n, h⟩ (v c))

/-- A layer: from the devices' inputs and weights, their columns of the next input. -/
def layer (x : Dev nD → FVec F S64x1024 .f32) (w : Dev nD → FVec F S1024x2048 .f32) (v : Dev nD → FVec F S2048x1024 .f32) :
    Dev nD → FVec F S64x1024 .f32 := fun c => accV x w v c 6 (le_refl 6)

/-! ## From the memory at launch -/

variable (m : (ℓ : Loc nD τ sig) → Buf (Elt F) ℓ)

/-- A device's first and second weight of layer `l`. -/
def wIn (l : Fin 3) (c : Dev nD) : FVec F S1024x2048 .f32 := (winA l).view.read (Elt F) (m ((winA l).view.loc (c : Thread nD τ)))
def wOut (l : Fin 3) (c : Dev nD) : FVec F S2048x1024 .f32 := (woutA l).view.read (Elt F) (m ((woutA l).view.loc (c : Thread nD τ)))

/-- A device's input as staged. -/
def xstg (c : Dev nD) : (cc0_stg0_0 : Ref sig .tc).ty.Contents (Elt F) :=
  (win0_0.blk (0 : Fin 1)).view.read (Elt F) (m ((c : Thread nD τ).loc main_arg0))

/-- The layers' inputs, and at the last index the result. -/
def xV : Fin 4 → Dev nD → FVec F S64x1024 .f32
  | 0 => fun c => inp (xstg m c)
  | 1 => layer (fun c => inp (xstg m c)) (wIn m 0) (wOut m 0)
  | 2 => layer (layer (fun c => inp (xstg m c)) (wIn m 0) (wOut m 0)) (wIn m 1) (wOut m 1)
  | 3 => layer (layer (layer (fun c => inp (xstg m c)) (wIn m 0) (wOut m 0)) (wIn m 1) (wOut m 1)) (wIn m 2) (wOut m 2)

/-- Each layer makes the next layer's input. -/
theorem xV_succ (l : Fin 3) : xV m l.succ = layer (xV m l.castSucc) (wIn m l) (wOut m l) := by fin_cases l <;> rfl

/-- What chunk `p`'s buffer holds when the exchange of slot `i` starts. -/
def sentV (p : Fin 6) (i : Fin 9) (c : Dev nD) : FVec F (SAcc p) .bf16 :=
  sumV p (partV p (xV m (lay i).castSucc) (wIn m (lay i))) (stp i).val c

/-- What is sent in step `s` of a layer is the sum after `s` exchanges. -/
theorem sentV_slt (p : Fin 6) (l s : Fin 3) (c : Dev nD) :
    sentV m p (slt l s) c = sumV p (partV p (xV m l.castSucc) (wIn m l)) s.val c := by
  unfold sentV; rw [lay_slt, stp_slt]

/-- A layer's first exchange sends the partial products. -/
theorem sentV_zero (p : Fin 6) (l : Fin 3) (c : Dev nD) : sentV m p (slt l 0) c = part p (xV m l.castSucc c) (colOf p (wIn m l c)) := by
  rw [sentV_slt]; rfl

end Cert.Mlp

end
-- ==== Proof.Proto.lean ====
/-
# The protocol

Every semaphore the kernel uses has one round. A device's barrier is raised by its three partners, each handing over
the landing slots the device will write into; a copy's semaphore returns the copy's source and its filled destination;
an exchange's sending semaphore returns the buffer sent, its receiving semaphore the slot holding the partner's sum.
What a device still owes are the exchanges it has not started; they are started, and awaited, in one order, so each
wait is for something earlier than everything owed.
-/
module

public import proofs.«01_k».proof.Proof.Values
public import Idealize.ShloMosaic.Lib.Rounds

@[expose] public section

noncomputable section

namespace Cert.Mlp

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The ghost state: the pipeline's and the protocol's. -/
abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The semaphores -/

/-- An exchange: its chunk and its slot. -/
abbrev Ex := Fin 6 × Fin 9
/-- The kernel's own semaphores: the copies', the exchanges' at the sender, at the receiver; with the barrier, all. -/
abbrev Ok := Fin 11 ⊕ (Ex ⊕ Ex)
abbrev Kd := Unit ⊕ Ok

instance decEqOk : DecidableEq Ok := inferInstance
instance decEqKd : DecidableEq Kd := inferInstance
instance decEqDevKd : DecidableEq (Dev nD × Kd) := inferInstance

abbrev kBar : Kd := .inl ()
abbrev kCp (k : Fin 11) : Kd := .inr (.inl k)
abbrev kSnd (e : Ex) : Kd := .inr (.inr (.inl e))
abbrev kRcv (e : Ex) : Kd := .inr (.inr (.inr e))

def osem : Ok → SemLoc sig
  | .inl k => .dma (cpS k)
  | .inr (.inl e) => .dma (sndS e.1 e.2)
  | .inr (.inr e) => .dma (rcvS e.1 e.2)
def csem : Kd → SemLoc sig
  | .inl _ => .reg barS
  | .inr k => osem k

/-- Which semaphore of the kernel's this is, if any. -/
def dec : SemLoc sig → Option Kd
  | .reg _ => some kBar
  | .dma q =>
    if q.val < 2 then none
    else if q.val < 13 then some (kCp (Fin.ofNat 11 (q.val - 2)))
    else if q.val < 67 then some (kSnd (Fin.ofNat 6 ((q.val - 13) / 9), Fin.ofNat 9 ((q.val - 13) % 9)))
    else some (kRcv (Fin.ofNat 6 ((q.val - 67) / 9), Fin.ofNat 9 ((q.val - 67) % 9)))

/-- A copy's semaphore is recognised, -/
theorem dec_cp (k : Fin 11) : dec (.dma (cpS k)) = some (kCp k) := by fin_cases k <;> rfl
/-- an exchange's sending one, -/
theorem dec_snd (p : Fin 6) (i : Fin 9) : dec (.dma (sndS p i)) = some (kSnd (p, i)) := by fin_cases p <;> fin_cases i <;> rfl
/-- its receiving one, -/
theorem dec_rcv (p : Fin 6) (i : Fin 9) : dec (.dma (rcvS p i)) = some (kRcv (p, i)) := by fin_cases p <;> fin_cases i <;> rfl
/-- and each of the kernel's semaphores. -/
theorem dec_csem (k : Kd) : dec (csem k) = some k := by
  rcases k with _ | k | e | e
  · rfl
  · exact dec_cp k
  · exact dec_snd e.1 e.2
  · exact dec_rcv e.1 e.2

/-- No two of the kernel's semaphores are one. -/
theorem csem_injective : Function.Injective csem := fun a b h => by
  have := congrArg dec h; rw [dec_csem, dec_csem] at this; exact Option.some.inj this

/-- A device's semaphore. -/
abbrev cell (c : Dev nD) (k : Kd) : GSem nD τ sig := ((c : Thread nD τ), csem k)

/-- Nor two devices' semaphores. -/
theorem cell_inj {c c' : Dev nD} {k k' : Kd} : cell c k = cell c' k' ↔ c = c' ∧ k = k' := by
  constructor
  · intro h
    exact ⟨congrArg (fun g : GSem nD τ sig => g.1.1) h, csem_injective (congrArg Prod.snd h)⟩
  · rintro ⟨rfl, rfl⟩; rfl

/-- The partner of an exchange; which of the three partners it is. -/
def pt (e : Ex) (c : Dev nD) : Dev nD := tgt e.1 (stp e.2) c
def bIx (e : Ex) : Fin 3 := match (msk e.1 (stp e.2)).toNat with | 1 => 0 | 3 => 1 | _ => 2

/-- An exchange's partner has the device for its partner. -/
theorem pt_pt (e : Ex) (c : Dev nD) : pt e (pt e c) = c := tgt_tgt _ _ _
/-- An exchange's partner is the one of the three that its word names. -/
theorem pt_eq (e : Ex) (c : Dev nD) : pt e c = tgtB (bIx e) c := by revert e c; decide +kernel
/-- The partner in step `s` of a layer. -/
theorem pt_slt (p : Fin 6) (l s : Fin 3) (c : Dev nD) : pt (p, slt l s) c = tgt p s c := by unfold pt; rw [stp_slt]

/-! ## Amounts -/

/-- What an exchange of chunk `p` counts; what a copy counts. -/
def nA (p : Fin 6) : ℕ := (accM p).view.dmaCredit
def nC : Fin 11 → ℕ
  | 0 => ((winM 0).slice (colR 0) (fun _ => rfl)).view.dmaCredit | 1 => ((winM 0).slice (colR 1) (fun _ => rfl)).view.dmaCredit
  | 2 => ((winM 0).slice (colR 2) (fun _ => rfl)).view.dmaCredit | 3 => ((winM 0).slice (colR 3) (fun _ => rfl)).view.dmaCredit
  | 4 => ((winM 0).slice (colR 4) (fun _ => rfl)).view.dmaCredit | 5 => ((winM 0).slice (colR 5) (fun _ => rfl)).view.dmaCredit
  | 6 => (woutM 0).view.dmaCredit | 7 => (winM 1).view.dmaCredit | 8 => (woutM 1).view.dmaCredit
  | 9 => (winM 2).view.dmaCredit | 10 => (woutM 2).view.dmaCredit

/-- What an exchange counts at its landing slot. -/
theorem nA_slot (p : Fin 6) (i : Fin 9) : (slotM p i).view.dmaCredit = nA p := by fin_cases p <;> rfl
/-- What the copy of a column chunk counts. -/
theorem nC_col (p : Fin 6) : ((winM 0).slice (colR p) (fun _ => rfl)).view.dmaCredit = nC (Fin.castLE (by decide) p) := by
  fin_cases p <;> rfl
/-- An exchange counts something. -/
theorem nA_pos (p : Fin 6) : 0 < nA p := View.dmaCredit_pos _ (posAcc p)
/-- A first weight has elements. -/
theorem posWin : 0 < S1024x2048.numel := by decide
/-- A second weight has elements. -/
theorem posWout : 0 < S2048x1024.numel := by decide
/-- A copy counts something. -/
theorem nC_pos : ∀ k : Fin 11, 0 < nC k
  | 0 => View.dmaCredit_pos ((winM 0).slice (colR 0) (fun _ => rfl)).view (posCol 0)
  | 1 => View.dmaCredit_pos ((winM 0).slice (colR 1) (fun _ => rfl)).view (posCol 1)
  | 2 => View.dmaCredit_pos ((winM 0).slice (colR 2) (fun _ => rfl)).view (posCol 2)
  | 3 => View.dmaCredit_pos ((winM 0).slice (colR 3) (fun _ => rfl)).view (posCol 3)
  | 4 => View.dmaCredit_pos ((winM 0).slice (colR 4) (fun _ => rfl)).view (posCol 4)
  | 5 => View.dmaCredit_pos ((winM 0).slice (colR 5) (fun _ => rfl)).view (posCol 5)
  | 6 => View.dmaCredit_pos (woutM 0).view posWout
  | 7 => View.dmaCredit_pos (winM 1).view posWin
  | 8 => View.dmaCredit_pos (woutM 1).view posWout
  | 9 => View.dmaCredit_pos (winM 2).view posWin
  | 10 => View.dmaCredit_pos (woutM 2).view posWout

def amt : Kd → ℕ
  | .inl _ => 1
  | .inr (.inl k) => nC k
  | .inr (.inr (.inl e)) => nA e.1
  | .inr (.inr (.inr e)) => nA e.1

/-- Whatever a semaphore's one round awaits, it is something. -/
theorem amt_pos (k : Kd) : 0 < amt k := by
  rcases k with _ | k | e | e
  · exact Nat.one_pos
  · exact nC_pos k
  · exact nA_pos _
  · exact nA_pos _

/-! ## What is handed over -/

variable (m : (ℓ : Loc nD τ sig) → Buf (Elt F) ℓ)

/-- A memref of a device's, owned. -/
abbrev own' (c : Dev nD) {sp : Space} {s : Shape} {e : EltTy} (M : Memref sig .tc sp s e) (X : s.Idx → Elt F e) : sProp 𝕄 :=
  owns (Ix := Unit) (Name := ℕ) (U := UU) (Lvl := ℕ) (c : Thread nD τ) M fullShare X

/-- A memref of a device's, owned at some contents. -/
abbrev some' (c : Dev nD) {sp : Space} {s : Shape} {e : EltTy} (M : Memref sig .tc sp s e) : sProp 𝕄 :=
  iprop(∃ X : s.Idx → Elt F e, own' c M X)

/-- What a copy needs, and what it leaves: chunk `p` of the first weight; a whole weight. -/
def colPre (c : Dev nD) (p : Fin 6) : sProp 𝕄 :=
  iprop(some' c ((winM 0).slice (colR p) (fun _ => rfl)) ∗ own' c ((winA 0).slice (colR p) (fun _ => rfl)) (colOf p (wIn m 0 c)))
def colPay (c : Dev nD) (p : Fin 6) : sProp 𝕄 :=
  iprop(own' c ((winM 0).slice (colR p) (fun _ => rfl)) (colOf p (wIn m 0 c)) ∗ own' c ((winA 0).slice (colR p) (fun _ => rfl)) (colOf p (wIn m 0 c)))
def winPre (c : Dev nD) (l : Fin 3) : sProp 𝕄 := iprop(some' c (winM l) ∗ own' c (winA l) (wIn m l c))
def winPay (c : Dev nD) (l : Fin 3) : sProp 𝕄 := iprop(own' c (winM l) (wIn m l c) ∗ own' c (winA l) (wIn m l c))
def woutPre (c : Dev nD) (l : Fin 3) : sProp 𝕄 := iprop(some' c (woutM l) ∗ own' c (woutA l) (wOut m l c))
def woutPay (c : Dev nD) (l : Fin 3) : sProp 𝕄 := iprop(own' c (woutM l) (wOut m l c) ∗ own' c (woutA l) (wOut m l c))

def cpPay (c : Dev nD) : Fin 11 → sProp 𝕄
  | 0 => colPay m c 0 | 1 => colPay m c 1 | 2 => colPay m c 2 | 3 => colPay m c 3 | 4 => colPay m c 4 | 5 => colPay m c 5
  | 6 => woutPay m c 0 | 7 => winPay m c 1 | 8 => woutPay m c 1 | 9 => winPay m c 2 | 10 => woutPay m c 2

/-- What the copy of a column chunk leaves. -/
theorem cpPay_col (c : Dev nD) (p : Fin 6) : cpPay m c (Fin.castLE (by decide) p) = colPay m c p := by fin_cases p <;> rfl

/-- The exchanges whose slots the `b`-th partner hands over. -/
def slotsOf (b : Fin 3) : Finset Ex := Finset.univ.filter fun e => bIx e = b

def barPay (c : Dev nD) (b : Fin 3) : sProp 𝕄 := bigSep (slotsOf b) fun e => some' (tgtB b c) (slotM e.1 e.2)
def sndPay (c : Dev nD) (e : Ex) : sProp 𝕄 := own' c (accM e.1) (sentV m e.1 e.2 c)
def rcvPay (c : Dev nD) (e : Ex) : sProp 𝕄 := own' c (slotM e.1 e.2) (sentV m e.1 e.2 (pt e c))

def pay (c : Dev nD) : Kd → Fin 3 → sProp 𝕄
  | .inl _, b => barPay c b
  | .inr (.inl k), _ => cpPay m c k
  | .inr (.inr (.inl e)), _ => sndPay m c e
  | .inr (.inr (.inr e)), _ => rcvPay m c e

instance colPay_storable (c : Dev nD) (p : Fin 6) : BI.Storable (upEmb : UEmb _ 𝕄) (colPay m c p) := by unfold colPay; infer_instance
instance winPay_storable (c : Dev nD) (l : Fin 3) : BI.Storable (upEmb : UEmb _ 𝕄) (winPay m c l) := by unfold winPay; infer_instance
instance woutPay_storable (c : Dev nD) (l : Fin 3) : BI.Storable (upEmb : UEmb _ 𝕄) (woutPay m c l) := by unfold woutPay; infer_instance
instance cpPay_storable (c : Dev nD) (k : Fin 11) : BI.Storable (upEmb : UEmb _ 𝕄) (cpPay m c k) := by
  fin_cases k <;> (unfold cpPay; infer_instance)
instance pay_storable (c : Dev nD) (k : Kd) (d : Fin 3) : BI.Storable (upEmb : UEmb _ 𝕄) (pay m c k d) := by
  rcases k with _ | k | e | e
  · show BI.Storable upEmb (barPay c d); unfold barPay; infer_instance
  · exact cpPay_storable m c k
  · show BI.Storable upEmb (sndPay m c e); unfold sndPay; infer_instance
  · show BI.Storable upEmb (rcvPay m c e); unfold rcvPay; infer_instance

/-! ## The schedule -/

/-- The duties of a semaphore's one round. -/
def dutiesK : Kd → Finset (Fin 3)
  | .inl _ => Finset.univ
  | .inr _ => {0}

def mlpRd : Rounds.Schedule (GSem nD τ sig) (Fin 3) 𝕄 where
  duties g r := if r = 0 ∧ g.1.2 = .tc then (match dec g.2 with | some k => dutiesK k | none => ∅) else ∅
  unitless _ := False
  amount g _ _ := match dec g.2 with | some k => amt k | none => 1
  payload g _ d := match dec g.2 with | some k => pay m g.1.1 k d | none => iprop(emp)
  amount_pos g _ _ _ := by
    cases h : dec g.2 with
    | none => exact Nat.one_pos
    | some k => exact amt_pos k

instance mlpRd_payload_storable (g : GSem nD τ sig) (r : ℕ) (d : Fin 3) :
    BI.Storable (upEmb : UEmb _ 𝕄) ((mlpRd (F := F) m).payload g r d) := by
  show BI.Storable upEmb (match dec g.2 with | some k => pay m g.1.1 k d | none => iprop(emp))
  cases h : dec g.2 with
  | none => infer_instance
  | some k => exact pay_storable m _ k d

section Sched
variable (c : Dev nD) (k : Kd)

/-- The first round of a semaphore has its duties, -/
theorem duties_cell : (mlpRd (F := F) m).duties (cell c k) 0 = dutiesK k := by
  dsimp only [mlpRd]; rw [if_pos ⟨rfl, rfl⟩, dec_csem]
/-- and later rounds have none. -/
theorem duties_later (g : GSem nD τ sig) : ∀ r, 1 ≤ r → (mlpRd (F := F) m).duties g r = ∅ :=
  fun r hr => by dsimp only [mlpRd]; rw [if_neg fun h => by omega]
/-- What a duty counts. -/
theorem amount_cell (d : Fin 3) : (mlpRd (F := F) m).amount (cell c k) 0 d = amt k := by
  dsimp only [mlpRd]; rw [dec_csem]
/-- What a duty hands over. -/
theorem payload_cell (d : Fin 3) : (mlpRd (F := F) m).payload (cell c k) 0 d = pay m c k d := by
  dsimp only [mlpRd]; rw [dec_csem]
/-- A copy's or an exchange's semaphore has the one duty. -/
theorem mem_duties (o : Ok) : (0 : Fin 3) ∈ (mlpRd (F := F) m).duties (cell c (.inr o)) 0 := by
  rw [duties_cell]; exact Finset.mem_singleton_self _
/-- A copy's or an exchange's semaphore awaits that duty's count, -/
theorem expect_own (o : Ok) : (mlpRd (F := F) m).expect (cell c (.inr o)) 0 = amt (.inr o) := by
  unfold Schedule.expect Schedule.amountOf; rw [duties_cell]
  show ∑ d ∈ {(0 : Fin 3)}, _ = _
  rw [Finset.sum_singleton, amount_cell]
/-- the barrier three signals. -/
theorem expect_bar : (mlpRd (F := F) m).expect (cell c kBar) 0 = 3 := by
  unfold Schedule.expect Schedule.amountOf; rw [duties_cell]
  show ∑ d ∈ (Finset.univ : Finset (Fin 3)), _ = _
  rw [Finset.sum_congr rfl fun d _ => amount_cell m c kBar d]; rfl
/-- Waiting for a copy or an exchange brings its one payload. -/
theorem rest_own (o : Ok) : bigSep ((mlpRd (F := F) m).duties (cell c (.inr o)) 0 \ ∅) (fun d => (mlpRd (F := F) m).payload (cell c (.inr o)) 0 d)
    = pay m c (.inr o) 0 := by
  rw [Finset.sdiff_empty, duties_cell]
  show bigSep {(0 : Fin 3)} _ = _
  rw [bigSep_singleton, payload_cell]

/-- The three partners' slots together are the slots a device writes into. -/
theorem rest_bar : bigSep ((mlpRd (F := F) m).duties (cell c kBar) 0 \ ∅) (fun d => (mlpRd (F := F) m).payload (cell c kBar) 0 d)
    = bigSep Finset.univ fun e : Ex => (some' (pt e c) (slotM e.1 e.2) : sProp 𝕄) := by
  rw [Finset.sdiff_empty, duties_cell]
  show bigSep (Finset.univ : Finset (Fin 3)) _ = _
  have hU : (Finset.univ : Finset Ex) = (Finset.univ : Finset (Fin 3)).biUnion slotsOf := by
    ext e; simp [slotsOf]
  rw [hU, bigSep_biUnion_eq _ slotsOf _ fun b _ b' _ hne => Finset.disjoint_filter.mpr fun e _ h h' => hne (h.symm.trans h')]
  refine bigSep_congr fun b _ => ?_
  rw [payload_cell]
  show barPay c b = _
  unfold barPay
  refine bigSep_congr fun e he => ?_
  rw [pt_eq, (Finset.mem_filter.mp he).2]

end Sched

/-! ## What is owed, and the levels -/

/-- The order in which exchanges are started. -/
def rk (e : Ex) : ℕ := 6 * e.2.val + e.1.val
/-- No two exchanges are started at once. -/
theorem rk_inj {e e' : Ex} (h : rk e = rk e') : e = e' := by
  unfold rk at h; have := e.1.isLt; have := e'.1.isLt
  exact Prod.ext (Fin.ext (by omega)) (Fin.ext (by omega))
/-- There are 54 exchanges. -/
theorem rk_lt (e : Ex) : rk e < 54 := by unfold rk; have := e.1.isLt; have := e.2.isLt; omega
/-- An exchange's place in the order, by layer, step and chunk. -/
theorem rk_slt (p : Fin 6) (l s : Fin 3) : rk (p, slt l s) = 18 * l.val + 6 * s.val + p.val := by unfold rk; dsimp only [slt]; omega

/-- The exchanges from the `n`-th on; before it. -/
def frm (n : ℕ) : Finset Ex := Finset.univ.filter fun e => n ≤ rk e
def bef (n : ℕ) : Finset Ex := Finset.univ.filter fun e => rk e < n

/-- The exchanges from the `n`-th on are the `n`-th and those after it, -/
theorem frm_step {e : Ex} {n : ℕ} (h : rk e = n) : frm n = insert e (frm (n + 1)) := by
  ext e'; simp only [frm, Finset.mem_filter, Finset.mem_univ, true_and, Finset.mem_insert]
  constructor
  · intro h'; by_cases he : rk e' = n
    · exact Or.inl (rk_inj (he.trans h.symm))
    · right; omega
  · rintro (rfl | h') <;> omega
/-- which it is not among. -/
theorem frm_not {e : Ex} {n : ℕ} (h : rk e = n) : e ∉ frm (n + 1) := by
  simp only [frm, Finset.mem_filter, Finset.mem_univ, true_and]; omega
/-- The exchanges before the `n + 1`-st are the `n`-th and those before it, -/
theorem bef_step {e : Ex} {n : ℕ} (h : rk e = n) : bef (n + 1) = insert e (bef n) := by
  ext e'; simp only [bef, Finset.mem_filter, Finset.mem_univ, true_and, Finset.mem_insert]
  constructor
  · intro h'; by_cases he : rk e' = n
    · exact Or.inl (rk_inj (he.trans h.symm))
    · right; omega
  · rintro (rfl | h') <;> omega
/-- which it is not among. -/
theorem bef_not {e : Ex} {n : ℕ} (h : rk e = n) : e ∉ bef n := by
  simp only [bef, Finset.mem_filter, Finset.mem_univ, true_and]; omega
/-- From the first on, all of them. -/
theorem frm_zero : frm 0 = Finset.univ := by ext e; simp [frm]
/-- After the last, none. -/
theorem frm_end : frm 54 = ∅ := by
  ext e; simp only [frm, Finset.mem_filter, Finset.mem_univ, true_and, Finset.notMem_empty, iff_false, not_le]; exact rk_lt e
/-- Before the first, none. -/
theorem bef_zero : bef 0 = ∅ := by ext e; simp [bef]
/-- Before the end, all of them. -/
theorem bef_end : bef 54 = Finset.univ := by
  ext e; simp only [bef, Finset.mem_filter, Finset.mem_univ, true_and, iff_true]; exact rk_lt e

/-- What one exchange owes; what the exchanges from the `n`-th on owe. -/
def oweE (c : Dev nD) (e : Ex) : CellTallies nD τ sig Unit := tallyAt (cell (pt e c) (kRcv e)) () (nA e.1)
def oweN (n : ℕ) (c : Dev nD) : CellTallies nD τ sig Unit := ∑ e ∈ frm n, oweE c e
def oweB (c : Dev nD) (b : Fin 3) : CellTallies nD τ sig Unit := tallyAt (cell (tgtB b c) kBar) () 1

/-- What a device owes at launch. -/
def O₀ (c : Dev nD) : CellTallies nD τ sig Unit := ((oweN 0 c + oweB c 2) + oweB c 1) + oweB c 0

/-- Starting the `n`-th exchange settles what it owed. -/
theorem oweN_step {e : Ex} {n : ℕ} (h : rk e = n) (c : Dev nD) : oweN n c = oweN (n + 1) c + oweE c e := by
  unfold oweN; rw [frm_step h, Finset.sum_insert (frm_not h), add_comm]
/-- In the end nothing is owed. -/
theorem oweN_end (c : Dev nD) : oweN 54 c = 0 := by unfold oweN; rw [frm_end, Finset.sum_empty]

/-- What is owed to a semaphore, exchange by exchange. -/
theorem oweN_apply (n : ℕ) (c : Dev nD) (g : GSem nD τ sig) (u : Unit) : oweN n c g u = ∑ e ∈ frm n, oweE c e g u := by
  unfold oweN
  rw [Finset.sum_apply, Finsupp.finset_sum_apply]

/-- An exchange owes only its partner's receiving semaphore. -/
theorem oweE_pos {c : Dev nD} {e : Ex} {g : GSem nD τ sig} {u : Unit} (h : 0 < oweE c e g u) : g = cell (pt e c) (kRcv e) := by
  unfold oweE at h; rw [tallyAt_apply] at h
  by_contra hn; rw [if_neg fun h' => hn h'.1] at h; exact Nat.lt_irrefl 0 h

/-- A signal owes only that partner's barrier. -/
theorem oweB_pos {c : Dev nD} {b : Fin 3} {g : GSem nD τ sig} {u : Unit} (h : 0 < oweB c b g u) : g = cell (tgtB b c) kBar := by
  unfold oweB at h; rw [tallyAt_apply] at h
  by_contra hn; rw [if_neg fun h' => hn h'.1] at h; exact Nat.lt_irrefl 0 h

/-- From the `n`-th exchange on, only the receiving semaphores of those exchanges are owed. -/
theorem oweN_pos {n : ℕ} {c : Dev nD} {g : GSem nD τ sig} {u : Unit} (h : 0 < oweN n c g u) :
    ∃ e, n ≤ rk e ∧ g = cell (pt e c) (kRcv e) := by
  rw [oweN_apply] at h
  obtain ⟨e, he, hp⟩ := Finset.exists_ne_zero_of_sum_ne_zero (Nat.pos_iff_ne_zero.mp h)
  exact ⟨e, (Finset.mem_filter.mp he).2, oweE_pos (Nat.pos_of_ne_zero hp)⟩

/-- At launch only receiving semaphores and barriers are owed. -/
theorem O₀_pos {c : Dev nD} {g : GSem nD τ sig} {u : Unit} (h : 0 < O₀ c g u) :
    (∃ e, g = cell (pt e c) (kRcv e)) ∨ ∃ b, g = cell (tgtB b c) kBar := by
  unfold O₀ at h
  simp only [Pi.add_apply, Finsupp.add_apply] at h
  by_cases h0 : 0 < oweN 0 c g u
  · obtain ⟨e, -, he⟩ := oweN_pos h0; exact Or.inl ⟨e, he⟩
  by_cases h1 : 0 < oweB c 0 g u
  · exact Or.inr ⟨0, oweB_pos h1⟩
  by_cases h2 : 0 < oweB c 1 g u
  · exact Or.inr ⟨1, oweB_pos h2⟩
  · exact Or.inr ⟨2, oweB_pos (b := 2) (c := c) (u := u) (by omega)⟩

def L (g : GSem nD τ sig) : Finset Unit := if g.1.2 = .tc then {()} else ∅

/-- The levels: a barrier's, then the receiving semaphores in the order of the exchanges, everything else below. -/
def lvK : Kd → ℕ
  | .inl _ => 1
  | .inr (.inl _) => 0
  | .inr (.inr (.inl _)) => 0
  | .inr (.inr (.inr e)) => 2 + rk e
def lv (g : GSem nD τ sig) (_ : Unit) : ℕ := match dec g.2 with | some k => lvK k | none => 0

/-- The level of a semaphore of the kernel's. -/
theorem lv_cell (c : Dev nD) (k : Kd) (u : Unit) : lv (cell c k) u = lvK k := by unfold lv; rw [dec_csem]
/-- Only the cores that run the kernel have levels. -/
theorem L_of_ne (g : GSem nD τ sig) (h : g.1.2 ≠ .tc) : L g = ∅ := if_neg h
/-- Each of their semaphores has one. -/
theorem L_tc (c : Dev nD) (sm : SemLoc sig) : L ((c : Thread nD τ), sm) = {()} := if_pos rfl

/-- A wait at a level below everything owed. -/
theorem mayWait_below (c : Dev nD) (sm : SemLoc sig) (O : CellTallies nD τ sig Unit) (n : ℕ) (hn : lv ((c : Thread nD τ), sm) () ≤ n)
    (hO : ∀ g u, 0 < O g u → ∃ d k, g = cell d k ∧ n < lvK k) :
    (levAts L lv : sProp 𝕄) ⊢ MayWait (c : Thread nD τ) sm () O :=
  MayOwe.of_cut (L := L) (lev := lv) n
    (fun p hp => by rw [Finset.mem_singleton.mp hp, L_tc]; exact Finset.mem_singleton_self _)
    (fun g u hg => by obtain ⟨d, k, rfl, -⟩ := hO g u hg; exact Finset.mem_singleton_self _)
    (fun p hp => by rw [Finset.mem_singleton.mp hp]; exact hn)
    (fun g u hg => by obtain ⟨d, k, rfl, h⟩ := hO g u hg; rw [lv_cell]; exact h)

/-- Owing the exchanges from the `n`-th on, a device may wait on any semaphore below them. -/
theorem mayWait_own (c : Dev nD) (k : Kd) (n : ℕ) (hk : lvK k < 2 + n) :
    (levAts L lv : sProp 𝕄) ⊢ MayWait (c : Thread nD τ) (csem k) () (oweN n c) :=
  mayWait_below c (csem k) (oweN n c) (1 + n) (by rw [lv_cell c k]; omega) fun g u hg => by
    obtain ⟨e, he, rfl⟩ := oweN_pos hg
    exact ⟨_, _, rfl, by show _ < 2 + rk e; omega⟩

/-- At launch, and once nothing is owed, a device may wait on a semaphore of level zero. -/
theorem mayWait_stage (c : Dev nD) (sm : SemLoc sig) (h : lv ((c : Thread nD τ), sm) () = 0) (O : CellTallies nD τ sig Unit)
    (hO : O = O₀ c ∨ O = 0) : (levAts L lv : sProp 𝕄) ⊢ MayWait (c : Thread nD τ) sm () O := by
  rcases hO with rfl | rfl
  · refine mayWait_below c sm _ 0 (by omega) fun g u hg => ?_
    rcases O₀_pos hg with ⟨e, rfl⟩ | ⟨b, rfl⟩
    · exact ⟨_, _, rfl, by show 0 < 2 + rk e; omega⟩
    · exact ⟨_, _, rfl, by show 0 < 1; omega⟩
  · rw [MayWait_zero]; iintro -; iempintro

end Cert.Mlp

end
-- ==== Proof.Rules.lean ====
/-
# The rule of each kind of step

Loads and stores of an owned buffer, an owned slice or an owned slot; the starting of a copy, of an exchange; the waits;
the signals. Each is stated with what the step needs, and what it hands on to the rest of the program.
-/
module

public import proofs.«01_k».proof.Proof.Proto
public import Idealize.ShloMosaic.Lib.VecWindow

@[expose] public section

noncomputable section

namespace Cert.Mlp

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- Device `c` may run `p` and end in `Q`. -/
abbrev WP (c : Dev nD) {α : Type} (p : Pg F α) (Q : α → sProp 𝕄) : sProp 𝕄 :=
  wp frame (wpE (defs₀ (F := F)) 𝒱₀ (c : Thread nD τ) none) Set.univ p Q

/-- One program after another. -/
theorem WP_bind (c : Dev nD) {α β : Type} (p : Pg F α) (k : α → Pg F β) (Q : β → sProp 𝕄) :
    WP c (p >>= k) Q = WP c p (fun a => WP c (k a) Q) := by unfold WP; rw [wp_bind]

/-- A program that only returns. -/
theorem WP_ret (c : Dev nD) {α : Type} (a : α) (Q : α → sProp 𝕄) : Q a ⊢ WP c (.ret a) Q := by
  unfold WP; rw [wp_ret]; iintro H; imodintro; iexact H

/-- One member of a family apart from the others. -/
theorem bigSep_put {I : Type} [DecidableEq I] {i : I} {S : Finset I} (h : i ∉ S) (Φ : I → sProp 𝕄) :
    bigSep (insert i S) Φ = iprop(Φ i ∗ bigSep S Φ) := bigSep_insert h

/-! ## Loads and stores -/

section Mem
variable (c : Dev nD) {α : Type} {s : Shape} {e : EltTy} (M : Memref sig .tc .vmem s e)

/-- A load of a rectangle of an owned memref. -/
theorem load_own {Q : α → sProp 𝕄} (r : Rect s) (X : s.Idx → Elt F e) {hl : M.view.LoadsAt r.toLoadRect} {k : (r.shape.Idx → Elt F e) → Pg F α} :
    iprop(own' c M X ∗ (own' c M X -∗ WP c (k fun j => X (r.emb j)) Q))
      ⊢ WP c (Prog.op (TpuEff.load (e := e) M r.toLoadRect hl) k) Q := by
  unfold own' owns
  iintro ⟨⟨%f, %hf, H⟩, Hk⟩
  iapply (wp_load_rect 𝒱₀ (c : Thread nD τ) none Set.univ (m := M) (r := r) (S := M.view.set) (View.set_slice_subset _ _)) $$ H
  iintro H
  have hr : (M.access r).read (Elt F) f = fun j => X (r.emb j) := by rw [← hf]; rfl
  rw [hr]
  iapply Hk
  iexists f
  isplitr; · ipureintro; exact hf
  iexact H

/-- A load of the rectangle whose slice is owned. -/
theorem load_slice {Q : α → sProp 𝕄} (r : Rect s) (hr : ∀ a, r.stride a = 1) (Y : r.shape.Idx → Elt F e) {hl : M.view.LoadsAt r.toLoadRect}
    {k : (r.shape.Idx → Elt F e) → Pg F α} :
    iprop(own' c (M.slice r hr) Y ∗ (own' c (M.slice r hr) Y -∗ WP c (k Y) Q))
      ⊢ WP c (Prog.op (TpuEff.load (e := e) M r.toLoadRect hl) k) Q := by
  unfold own' owns
  iintro ⟨⟨%f, %hf, H⟩, Hk⟩
  iapply (wp_load_rect 𝒱₀ (c : Thread nD τ) none Set.univ (m := M) (r := r) (S := (M.view.slice r).set) (Finset.Subset.refl _)) $$ H
  iintro H
  have hr : (M.access r).read (Elt F) f = Y := hf
  rw [hr]
  iapply Hk
  iexists f
  isplitr; · ipureintro; exact hf
  iexact H

end Mem

section MlpMem
variable (c : Dev nD) {α : Type} (p : Fin 6)

/-- A load of an owned slot: what is read, without its leading unit axis, is what the slot holds. -/
theorem load_slot {Q : α → sProp 𝕄} (i : Fin 9) (A : FVec F (SAcc p) .bf16) {hl : (recvM p).view.LoadsAt (slotR p i).toLoadRect} {k : FVec F (SSlot p) .bf16 → Pg F α} :
    iprop(own' c (slotM p i) A ∗ (∀ r : FVec F (SSlot p) .bf16, ⌜shapeCast (SAcc p) r (castSlot p) = A⌝ -∗ own' c (slotM p i) A -∗ WP c (k r) Q))
      ⊢ WP c (Prog.op (TpuEff.load (e := .bf16) (recvM p) (slotR p i).toLoadRect hl) k) Q := by
  unfold own' owns
  iintro ⟨⟨%f, %hf, H⟩, Hk⟩
  iapply (wp_load_rect 𝒱₀ (c : Thread nD τ) none Set.univ (m := recvM p) (r := slotR p i) (S := (slotM p i).view.set)
    (by rw [show (slotM p i).view.set = ((recvM p).view.slice (slotR p i)).set from View.set_reshape _ _])) $$ H
  iintro H
  iapply Hk
  · ipureintro; rw [← hf]; rfl
  iexists f
  isplitr; · ipureintro; exact hf
  iexact H

/-- The whole rectangle of a chunk's buffer places each index at itself. -/
theorem accR_emb (x : (SAcc p).Idx) : (accR p).emb x = x := by
  exact Rect.emb_unit_full (s := SAcc p) (off := ![0, 0]) (inAcc p) x

/-- A load of a chunk's whole buffer. -/
theorem load_acc {Q : α → sProp 𝕄} (A : FVec F (SAcc p) .bf16) {hl : (accM p).view.LoadsAt (accR p).toLoadRect} {k : FVec F (SAcc p) .bf16 → Pg F α} :
    iprop(own' c (accM p) A ∗ (own' c (accM p) A -∗ WP c (k A) Q))
      ⊢ WP c (Prog.op (TpuEff.load (e := .bf16) (accM p) (accR p).toLoadRect hl) k) Q := by
  have h := load_own (Q := Q) c (accM p) (accR p) A (hl := hl) (k := k)
  rw [show (fun j => A ((accR p).emb j)) = A from funext fun j => congrArg A (accR_emb p j)] at h
  exact h

/-- The store of a chunk's whole buffer. -/
theorem wp_stAcc (v : FVec F (SAcc p) .bf16) {Q : PUnit → sProp 𝕄} :
    iprop(some' c (accM p) ∗ (own' c (accM p) v -∗ Q ⟨⟩)) ⊢ WP c (stAcc p v) Q := by
  iintro ⟨⟨%A, H⟩, Hk⟩
  unfold stAcc
  iapply (load_acc c p A)
  isplitl [H]; · iexact H
  unfold own' owns
  iintro ⟨%f, %hf, H⟩
  iapply (wp_store 𝒱₀ (c : Thread nD τ) none Set.univ (m := accM p) (r := accR p) (Mk := Finset.univ) (S := (accM p).view.set) (View.set_slice_subset _ _)) $$ H
  iintro H
  rw [wp_ret]; imodintro
  iapply Hk
  iexists _
  isplitr
  rotate_left
  · iexact H
  · ipureintro
    have h := View.read_write_univ (v := (accM p).access (accR p)) (Val := Elt F) f v
    funext x
    have := congrFun h x
    rw [← this]
    show (accM p).view.read (Elt F) _ x = (accM p).view.read (Elt F) _ ((accR p).emb x)
    rw [accR_emb]

end MlpMem

/-! ## What every step may use -/

variable (m : (ℓ : Loc nD τ sig) → Buf (Elt F) ℓ)

/-- The invariants of all the semaphores, that each has reached its round, and the levels. -/
def env (K : Dev nD × Kd → ℕ) : sProp 𝕄 :=
  iprop((bigSep Finset.univ fun ck : Dev nD × Kd => cellInv ER (mlpRd m) (K ck) (cell ck.1 ck.2))
    ∗ (bigSep Finset.univ fun ck : Dev nD × Kd => reached ER (cell ck.1 ck.2) 0) ∗ levAts L lv)

instance env_persistent (K : Dev nD × Kd → ℕ) : BI.Persistent (env m K) := by unfold env; infer_instance

/-- The shared facts hold each semaphore's invariant, -/
theorem env_inv (K : Dev nD × Kd → ℕ) (c : Dev nD) (k : Kd) : env m K ⊢ cellInv ER (mlpRd m) (K (c, k)) (cell c k) := by
  unfold env
  exact sep_elim_left.trans (bigSep_elim (Φ := fun ck : Dev nD × Kd => (cellInv ER (mlpRd m) (K ck) (cell ck.1 ck.2) : sProp 𝕄)) (Finset.mem_univ (c, k)))
/-- that its first round is reached, -/
theorem env_reached (K : Dev nD × Kd → ℕ) (c : Dev nD) (k : Kd) : env m K ⊢ reached ER (cell c k) 0 := by
  unfold env
  exact (sep_elim_right.trans sep_elim_left).trans (bigSep_elim (Φ := fun ck : Dev nD × Kd => (reached ER (cell ck.1 ck.2) 0 : sProp 𝕄)) (Finset.mem_univ (c, k)))
/-- and the levels. -/
theorem env_lev (K : Dev nD × Kd → ℕ) : env m K ⊢ levAts L lv := by unfold env; iintro ⟨-, -, H⟩; iexact H

/-- Device `c` owes `O`, whatever it has waited for. -/
def owing (c : Dev nD) (O : CellTallies nD τ sig Unit) : sProp 𝕄 := iprop(∃ W, owes (c : Thread nD τ) O W)

abbrev tok (c : Dev nD) (k : Kd) (d : Fin 3) : sProp 𝕄 := dutyTok ER (cell c k) 0 d
abbrev pos0 (c : Dev nD) (k : Kd) : sProp 𝕄 := atPos ER (cell c k) 0 ∅ 0
abbrev crd (c : Dev nD) (k : Kd) (n : ℕ) : sProp 𝕄 := cred (tallyAt (cell c k) () n)
abbrev zero (c : Dev nD) (k : Kd) : sProp 𝕄 := semVal (cell c k) 0

variable (K : Dev nD × Kd → ℕ) (c : Dev nD)

/-! ## Waits -/

/-- A wait for one of the kernel's own semaphores: what it hands over, and its counter, at zero for good. -/
theorem wait_own (o : Ok) (n : ℕ) {α : Type} {Q : α → sProp 𝕄} {sem : DmaSem sig} (hs : osem o = .dma sem)
    {sp sp' : Space} {s s' : Shape} {e e' : EltTy} {src : Memref sig .tc sp' s' e'} {dst : Memref sig .tc sp s e}
    {hsrc : src.view.WordExact} {hdst : dst.view.WordExact} (hN : dst.view.dmaCredit = amt (.inr o)) (hlt : lvK (.inr o) < 2 + n)
    {k : PUnit → Pg F α} :
    iprop(env m K ∗ crd c (.inr o) (amt (.inr o)) ∗ pos0 c (.inr o) ∗ owing c (oweN n c)
        ∗ ((owing c (oweN n c) ∗ zero c (.inr o) ∗ pay m c (.inr o) 0) -∗ WP c (k ⟨⟩) Q))
      ⊢ WP c (.op (.waitDma2 sem src dst hsrc hdst) k) Q := by
  unfold owing
  iintro ⟨#He, Hc, Hp, ⟨%W, Ho⟩, Hk⟩
  iapply (Rounds.wp_wait_rest_token 𝒱₀ ER (mlpRd m) (c : Thread nD τ) none (κ := K (c, .inr o)) (sm := csem (.inr o)) (k' := amt (.inr o))
    (fun Kt => by rw [show csem (.inr o) = .dma sem from hs, ← hN]; exact wpE_waitDma2_eq 𝒱₀ (c : Thread nD τ) none Set.univ Kt)
    (Set.mem_univ _) () (O := oweN n c) (W := W) (R := 0) (m := 0) (T := ∅) (by rw [Nat.zero_add, expect_own])) $$ [Hc Ho Hp]
  · isplitr; · iapply (env_inv m K c (.inr o)); iexact He
    isplitl [Hc]; · iexact Hc
    isplitl [Ho]; · iexact Ho
    isplitr; · iapply (mayWait_own c (.inr o) n hlt); iapply (env_lev m K); iexact He
    iexact Hp
  iintro ⟨Ho, Hp, -, Hpay⟩
  imod (Rounds.cell_close ER (mlpRd m) (Set.mem_univ (K (c, .inr o))) (fun h => h) (R := 0 + 1) (duties_later m (cell c (.inr o)))) $$ [Hp] with Hz
  · isplitr; · iapply (env_inv m K c (.inr o)); iexact He
    iexact Hp
  ihave Hpay := (Entails.of_eq (rest_own m c o)) $$ Hpay
  iapply Hk
  isplitl [Ho]; · iexists _; iexact Ho
  isplitl [Hz]; · iexact Hz
  iexact Hpay

/-- The wait for the three partners: the slots the device writes into. -/
theorem wp_wtBar {Q : PUnit → sProp 𝕄} :
    iprop(env m K ∗ crd c kBar 3 ∗ pos0 c kBar ∗ owing c (oweN 0 c)
        ∗ ((owing c (oweN 0 c) ∗ zero c kBar ∗ bigSep Finset.univ fun e : Ex => some' (pt e c) (slotM e.1 e.2)) -∗ Q ⟨⟩))
      ⊢ WP c wtBar Q := by
  unfold owing wtBar
  simp only [semWaitWord, Prog.lift, Prog.pure_eq_ret]
  iintro ⟨#He, Hc, Hp, ⟨%W, Ho⟩, Hk⟩
  iapply (Rounds.wp_wait_rest_token 𝒱₀ ER (mlpRd m) (c : Thread nD τ) none (κ := K (c, kBar)) (sm := csem kBar)
    (wpE_semWait_eq 𝒱₀ (c : Thread nD τ) none Set.univ)
    (Set.mem_univ _) () (O := oweN 0 c) (W := W) (R := 0) (m := 0) (T := ∅) ((by decide : 0 + (3#32).toNat = 3).trans (expect_bar m c).symm)) $$ [Hc Ho Hp]
  · isplitr; · iapply (env_inv m K c kBar); iexact He
    isplitl [Hc]; · iexact Hc
    isplitl [Ho]; · iexact Ho
    isplitr; · iapply (mayWait_own c kBar 0 (by decide)); iapply (env_lev m K); iexact He
    iexact Hp
  iintro ⟨Ho, Hp, -, Hpay⟩
  imod (Rounds.cell_close ER (mlpRd m) (Set.mem_univ (K (c, kBar))) (fun h => h) (R := 0 + 1) (duties_later m (cell c kBar))) $$ [Hp] with Hz
  · isplitr; · iapply (env_inv m K c kBar); iexact He
    iexact Hp
  ihave Hpay := (Entails.of_eq (rest_bar m c)) $$ Hpay
  rw [wp_ret]; imodintro
  iapply Hk
  isplitl [Ho]; · iexists _; iexact Ho
  isplitl [Hz]; · iexact Hz
  iexact Hpay

/-! ## The signals -/

/-- The slots a device hands to its `b`-th partner. -/
theorem barPay_partner (b : Fin 3) : (bigSep (slotsOf b) fun e => (some' c (slotM e.1 e.2) : sProp 𝕄)) = barPay (tgtB b c) b := by
  unfold barPay; rw [tgtB_tgtB]

/-- Signalling a partner's barrier hands it the slots that this partner writes into. -/
theorem wp_sgn (b : Fin 3) (O : CellTallies nD τ sig Unit) {Q : PUnit → sProp 𝕄} :
    iprop(env m K ∗ owing c (O + oweB c b) ∗ tok (tgtB b c) kBar b ∗ (bigSep (slotsOf b) fun e => some' c (slotM e.1 e.2))
        ∗ (owing c O -∗ Q ⟨⟩))
      ⊢ WP c (sgn c b) Q := by
  unfold owing sgn
  simp only [semSignalWord, Prog.lift, Prog.pure_eq_ret]
  iintro ⟨#He, ⟨%W, Ho⟩, Ht, Hs, Hk⟩
  iapply (Rounds.wp_signal 𝒱₀ ER (mlpRd m) (c : Thread nD τ) none (dst := (tgtB b c : Thread nD τ)) (κ := K (tgtB b c, kBar))
      (d := b) (by rw [show ((tgtB b c : Thread nD τ), SemLoc.reg barS) = cell (tgtB b c) kBar from rfl, duties_cell]; exact Finset.mem_univ _)
      ((amount_cell m (tgtB b c) kBar b).trans (by decide)) () O rfl) $$ [Ho Ht Hs]
  · isplitr; · iapply (env_inv m K (tgtB b c) kBar); iexact He
    isplitl [Ho]; · iexact Ho
    isplitl [Ht]; · iexact Ht
    isplitl [Hs]
    · iapply (show barPay (tgtB b c) b ⊢ (mlpRd m).payload ((tgtB b c : Thread nD τ), SemLoc.reg barS) 0 b from Entails.of_eq (payload_cell m (tgtB b c) kBar b).symm)
      iapply (Entails.of_eq (barPay_partner c b)); iexact Hs
    · iapply (env_reached m K (tgtB b c) kBar); iexact He
  iintro Ho
  rw [wp_ret]; imodintro
  iapply Hk
  iexists W; iexact Ho

/-! ## Copies and exchanges -/

/-- The start of a copy: its source and its destination go, to come back through its semaphore. -/
theorem wp_cp (k : Fin 11) {sp sp' : Space} {s : Shape} {e : EltTy} (src : Memref sig .tc sp s e) (dst : Memref sig .tc sp' s e) (X : s.Idx → Elt F e)
    (hN : dst.view.dmaCredit = nC k) (hpay : iprop(own' c dst X ∗ own' c src X) ⊢ cpPay m c k)
    {hsrc : src.view.WordExact} {hdst : dst.view.WordExact} {hsem : (DmaTarget.here dst : DmaTarget nD τ sig .tc sp' s e).Typed sp (.dma (cpS k))} {Q : PUnit → sProp 𝕄} :
    iprop(env m K ∗ some' c dst ∗ own' c src X ∗ tok c (kCp k) 0 ∗ (crd c (kCp k) (nC k) -∗ Q ⟨⟩))
      ⊢ WP c (.op (.enqueueDma src (.here dst) (.dma (cpS k)) hsrc hdst hsem) .ret) Q := by
  unfold some' own' owns
  iintro ⟨#He, ⟨%Y, %fd, %hfd, Hd⟩, ⟨%fs, %hfs, Hs⟩, Ht, Hk⟩
  iapply (Rounds.wp_copy_pointsTo 𝒱₀ ER (mlpRd m) (c : Thread nD τ) none (κ := K (c, kCp k)) (q := fullShare) (r := 0) (d := 0) (fs := fs) (fd := fd)
    (mem_duties m c (.inl k)) () (nC k) hN (amount_cell m c (kCp k) 0)
    (by
      refine BI.Entails.trans ?_ (hpay.trans (Entails.of_eq (payload_cell m c (kCp k) 0).symm))
      show _ ⊢ (iprop(own' c dst X ∗ own' c src X) : sProp 𝕄)
      unfold own' owns
      iintro ⟨H1, H2⟩
      isplitl [H1]
      · iexists _
        isplitr
        rotate_left
        · iexact H1
        · ipureintro; rw [View.read_write_univ]; exact hfs
      · iexists fs
        isplitr; · ipureintro; exact hfs
        iexact H2)) $$ [Hd Hs Ht]
  · isplitr; · iapply (env_inv m K c (kCp k)); iexact He
    isplitl [Hs]; · iexact Hs
    isplitl [Hd]; · iexact Hd
    isplitl [Ht]; · iexact Ht
    iapply (env_reached m K c (kCp k)); iexact He
  iintro Hc
  rw [wp_ret]; imodintro
  iapply Hk; iexact Hc

/-- The exchange of chunk `p` in slot `i` sent to device `n`. -/
def sndTo (n : Dev nD) (p : Fin 6) (i : Fin 9) : Pg F PUnit :=
  .op (.enqueueDma (accM p) (.remote (Dev.tc n) (slotM p i) (.dma (sndS p i)))
    (.dma (rcvS p i)) (accW p).wordExact (slotWE p i) ⟨⟨rfl, Or.inl rfl⟩, trivial⟩) .ret

/-- What starting an exchange takes. -/
def sendRes (c : Dev nD) (e : Ex) : sProp 𝕄 :=
  iprop(some' (pt e c) (slotM e.1 e.2) ∗ tok c (kSnd e) 0 ∗ tok (pt e c) (kRcv e) 0)

/-- Starting the `j`-th exchange: the buffer and the partner's slot go, what is left to owe is the exchanges after it. -/
theorem wp_sndTo (p : Fin 6) (i : Fin 9) (n : Dev nD) (hn : n = pt (p, i) c) (j : ℕ) (hj : rk (p, i) = j) {Q : PUnit → sProp 𝕄} :
    iprop(env m K ∗ own' c (accM p) (sentV m p i c) ∗ sendRes c (p, i) ∗ owing c (oweN j c)
        ∗ ((crd c (kSnd (p, i)) (nA p) ∗ owing c (oweN (j + 1) c)) -∗ Q ⟨⟩))
      ⊢ WP c (sndTo n p i) Q := by
  subst hn
  unfold sndTo sendRes owing some' own' owns
  iintro ⟨#He, ⟨%fs, %hfs, Hs⟩, ⟨⟨%Y, %fd, %hfd, Hd⟩, Ht1, Ht2⟩, ⟨%W, Ho⟩, Hk⟩
  iapply (Rounds.wp_send_pointsTo 𝒱₀ ER (mlpRd m) (c : Thread nD τ) none (κ₁ := K (c, kSnd (p, i))) (κ₂ := K (pt (p, i) c, kRcv (p, i)))
    (r₁ := 0) (r₂ := 0) (d₁ := 0) (d₂ := 0) (fs := fs) (fd := fd)
    (mem_duties m c (.inr (.inl (p, i)))) (mem_duties m (pt (p, i) c) (.inr (.inr (p, i))))
    () () (nA p) (nA_slot p i) (amount_cell m c (kSnd (p, i)) 0) (amount_cell m (pt (p, i) c) (kRcv (p, i)) 0)
    (oweN (j + 1) c) (oweN_step hj c) (W := W)
    (by
      refine BI.Entails.trans ?_ (Entails.of_eq (payload_cell m c (kSnd (p, i)) 0).symm)
      show _ ⊢ sndPay m c (p, i)
      unfold sndPay own' owns
      iintro H; iexists fs
      isplitr; · ipureintro; exact hfs
      iexact H)
    (by
      refine BI.Entails.trans ?_ (Entails.of_eq (payload_cell m (pt (p, i) c) (kRcv (p, i)) 0).symm)
      show _ ⊢ rcvPay m (pt (p, i) c) (p, i)
      unfold rcvPay own' owns
      rw [pt_pt]
      iintro H; iexists _
      isplitr
      rotate_left
      · iexact H
      · ipureintro; rw [View.read_write_univ]; exact hfs)) $$ [Hs Hd Ho Ht1 Ht2]
  · isplitr; · iapply (env_inv m K c (kSnd (p, i))); iexact He
    isplitr; · iapply (env_inv m K (pt (p, i) c) (kRcv (p, i))); iexact He
    isplitl [Hs]; · iexact Hs
    isplitl [Hd]; · iexact Hd
    isplitl [Ho]; · iexact Ho
    isplitl [Ht1]; · iexact Ht1
    isplitr; · iapply (env_reached m K c (kSnd (p, i))); iexact He
    isplitl [Ht2]; · iexact Ht2
    iapply (env_reached m K (pt (p, i) c) (kRcv (p, i))); iexact He
  iintro ⟨Hc, Ho⟩
  rw [wp_ret]; imodintro
  iapply Hk
  isplitl [Hc]; · iexact Hc
  iexists W; iexact Ho

end Cert.Mlp

end
-- ==== Proof.State.lean ====
/-
# Where a device stands, and a chunk's phases

A device has started the exchanges before the `k`-th and ended those before the `j`-th. What it holds for the exchanges to
come, for those under way and for those ended is `St c j k`; each phase moves `j` and `k`.
-/
module

public import proofs.«01_k».proof.Proof.Rules

@[expose] public section

noncomputable section

namespace Cert.Mlp

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The exchanges under way -/

/-- The exchanges started before the `k`-th and not ended before the `j`-th. -/
def fly (j k : ℕ) : Finset Ex := Finset.univ.filter fun e => j ≤ rk e ∧ rk e < k

/-- Starting an exchange adds it to those under way, -/
theorem fly_start {e : Ex} {j k : ℕ} (h : rk e = k) (hj : j ≤ k) : fly j (k + 1) = insert e (fly j k) := by
  ext e'; simp only [fly, Finset.mem_filter, Finset.mem_univ, true_and, Finset.mem_insert]
  constructor
  · intro h'; by_cases he : rk e' = k
    · exact Or.inl (rk_inj (he.trans h.symm))
    · right; omega
  · rintro (rfl | h') <;> omega
/-- among which it was not. -/
theorem fly_start_not {e : Ex} {j k : ℕ} (h : rk e = k) : e ∉ fly j k := by
  simp only [fly, Finset.mem_filter, Finset.mem_univ, true_and]; omega
/-- Ending an exchange takes it from those under way, -/
theorem fly_stop {e : Ex} {j k : ℕ} (h : rk e = j) (hj : j < k) : fly j k = insert e (fly (j + 1) k) := by
  ext e'; simp only [fly, Finset.mem_filter, Finset.mem_univ, true_and, Finset.mem_insert]
  constructor
  · intro h'; by_cases he : rk e' = j
    · exact Or.inl (rk_inj (he.trans h.symm))
    · right; omega
  · rintro (rfl | h') <;> omega
/-- among which it is no longer. -/
theorem fly_stop_not {e : Ex} {j k : ℕ} (h : rk e = j) : e ∉ fly (j + 1) k := by
  simp only [fly, Finset.mem_filter, Finset.mem_univ, true_and]; omega
/-- Started and ended alike, none is under way. -/
theorem fly_same (k : ℕ) : fly k k = ∅ := by
  ext e; simp only [fly, Finset.mem_filter, Finset.mem_univ, true_and, Finset.notMem_empty, iff_false]; omega

/-! ## The state -/

variable (m : (ℓ : Loc nD τ sig) → Buf (Elt F) ℓ) (K : Dev nD × Kd → ℕ) (c : Dev nD)

/-- What ending an exchange takes beside its sender's count. -/
def waitRes (e : Ex) : sProp 𝕄 := iprop(pos0 c (kSnd e) ∗ pos0 c (kRcv e) ∗ crd c (kRcv e) (nA e.1))
/-- What an ended exchange leaves. -/
def doneRes (e : Ex) : sProp 𝕄 := iprop(rcvPay m c e ∗ zero c (kSnd e) ∗ zero c (kRcv e))

/-- A device that has started the exchanges before the `k`-th and ended those before the `j`-th. -/
def St (j k : ℕ) : sProp 𝕄 :=
  iprop(bigSep (frm k) (sendRes c) ∗ bigSep (frm j) (waitRes c) ∗ bigSep (fly j k) (fun e => crd c (kSnd e) (nA e.1))
    ∗ bigSep (bef j) (doneRes m c) ∗ owing c (oweN k c))

/-- Starting an exchange, as the body writes it, is sending to its partner. -/
theorem snd_eq (l s : Fin 3) (p : Fin 6) : snd (F := F) c l s p = sndTo (tgt p s c) p (slt l s) := rfl

/-- An exchange is started. -/
theorem wp_snd (l s : Fin 3) (p : Fin 6) (j k : ℕ) (hk : rk (p, slt l s) = k) (hj : j ≤ k) {Q : PUnit → sProp 𝕄} :
    iprop(env m K ∗ own' c (accM p) (sentV m p (slt l s) c) ∗ St m c j k ∗ (St m c j (k + 1) -∗ Q ⟨⟩)) ⊢ WP c (snd c l s p) Q := by
  rw [snd_eq]
  unfold St
  rw [frm_step hk, bigSep_put (frm_not hk), fly_start hk hj, bigSep_put (fly_start_not hk)]
  iintro ⟨#He, Ha, ⟨⟨Hs, Hss⟩, Hw, Hf, Hd, Ho⟩, Hk⟩
  iapply (wp_sndTo m K c p (slt l s) (tgt p s c) (pt_slt p l s c).symm k hk)
  isplitr; · iexact He
  isplitl [Ha]; · iexact Ha
  isplitl [Hs]; · iexact Hs
  isplitl [Ho]; · iexact Ho
  iintro ⟨Hc, Ho⟩
  iapply Hk
  isplitl [Hss]; · iexact Hss
  isplitl [Hw]; · iexact Hw
  isplitl [Hc Hf]
  · isplitl [Hc]; · iexact Hc
    iexact Hf
  isplitl [Hd]; · iexact Hd
  iexact Ho

/-- An exchange is ended: the chunk's buffer is back, as it was sent. -/
theorem wp_wtEx (l s : Fin 3) (p : Fin 6) (j k : ℕ) (hj : rk (p, slt l s) = j) (hk : j < k) {Q : PUnit → sProp 𝕄} :
    iprop(env m K ∗ St m c j k ∗ ((own' c (accM p) (sentV m p (slt l s) c) ∗ St m c (j + 1) k) -∗ Q ⟨⟩)) ⊢ WP c (wtEx l s p) Q := by
  unfold St wtEx
  rw [frm_step hj, bigSep_put (frm_not hj), fly_stop hj hk, bigSep_put (fly_stop_not hj), bef_step hj, bigSep_put (bef_not hj)]
  iintro ⟨#He, ⟨Hs, ⟨Hw, Hws⟩, ⟨Hc, Hf⟩, Hd, Ho⟩, Hk⟩
  unfold waitRes
  icases Hw with ⟨Hp1, Hp2, Hc2⟩
  iapply (wait_own m K c (.inr (.inl (p, slt l s))) k (sem := sndS p (slt l s)) rfl rfl (by show 0 < 2 + k; omega))
  isplitr; · iexact He
  isplitl [Hc]; · iexact Hc
  isplitl [Hp1]; · iexact Hp1
  isplitl [Ho]; · iexact Ho
  iintro ⟨Ho, Hz1, Ha⟩
  ihave Ha := (show pay m c (kSnd (p, slt l s)) 0 ⊢ own' c (accM p) (sentV m p (slt l s) c) from .rfl) $$ Ha
  iapply (wait_own m K c (.inr (.inr (p, slt l s))) k (sem := rcvS p (slt l s)) rfl (nA_slot p _) (by show 2 + rk (p, slt l s) < 2 + k; omega))
  isplitr; · iexact He
  isplitl [Hc2]; · iexact Hc2
  isplitl [Hp2]; · iexact Hp2
  isplitl [Ho]; · iexact Ho
  iintro ⟨Ho, Hz2, Hr⟩
  ihave Hr := (show pay m c (kRcv (p, slt l s)) 0 ⊢ rcvPay m c (p, slt l s) from .rfl) $$ Hr
  iapply (WP_ret c)
  iapply Hk
  isplitl [Ha]; · iexact Ha
  isplitl [Hs]; · iexact Hs
  isplitl [Hws]; · iexact Hws
  isplitl [Hf]; · iexact Hf
  isplitr [Ho]
  · isplitr [Hd]
    · unfold doneRes
      isplitl [Hr]; · iexact Hr
      isplitl [Hz1]; · iexact Hz1
      iexact Hz2
    · iexact Hd
  iexact Ho

/-- A chunk's buffer and what arrived are read. -/
theorem wp_rdEx (l s : Fin 3) (p : Fin 6) (j k : ℕ) (hj : rk (p, slt l s) < j) (A : FVec F (SAcc p) .bf16) {α : Type}
    {kk : FVec F (SAcc p) .bf16 → FVec F (SSlot p) .bf16 → Pg F α} {Q : α → sProp 𝕄} :
    iprop(own' c (accM p) A ∗ St m c j k
        ∗ (∀ r : FVec F (SSlot p) .bf16, ⌜shapeCast (SAcc p) r (castSlot p) = sentV m p (slt l s) (tgt p s c)⌝ -∗ own' c (accM p) A -∗ St m c j k -∗ WP c (kk A r) Q))
      ⊢ WP c (rdEx l s p kk) Q := by
  have hmem : (p, slt l s) ∈ bef j := Finset.mem_filter.mpr ⟨Finset.mem_univ _, hj⟩
  unfold St rdEx
  rw [← Finset.insert_erase hmem, bigSep_put (Finset.notMem_erase _ _)]
  iintro ⟨Ha, ⟨Hs, Hw, Hf, ⟨Hd, Hds⟩, Ho⟩, Hk⟩
  unfold doneRes rcvPay
  icases Hd with ⟨Hr, Hz⟩
  iapply (load_acc c p A)
  isplitl [Ha]; · iexact Ha
  iintro Ha
  iapply (load_slot c p (slt l s) (sentV m p (slt l s) (pt (p, slt l s) c)))
  isplitl [Hr]; · iexact Hr
  iintro %r %hr Hr
  iapply Hk $$ [] Ha
  · ipureintro; rw [hr, pt_slt]
  isplitl [Hs]; · iexact Hs
  isplitl [Hw]; · iexact Hw
  isplitl [Hf]; · iexact Hf
  isplitr [Ho]
  · isplitr [Hds]
    · isplitl [Hr]; · iexact Hr
      iexact Hz
    · iexact Hds
  iexact Ho

/-- What arrived is added. -/
theorem wp_addEx (l s s' : Fin 3) (hs : s'.val = s.val + 1) (p : Fin 6) (j k : ℕ) (hj : rk (p, slt l s) < j) {Q : PUnit → sProp 𝕄} :
    iprop(own' c (accM p) (sentV m p (slt l s) c) ∗ St m c j k ∗ ((own' c (accM p) (sentV m p (slt l s') c) ∗ St m c j k) -∗ Q ⟨⟩))
      ⊢ WP c (addEx l s p) Q := by
  unfold addEx
  iintro ⟨Ha, HS, Hk⟩
  iapply (wp_rdEx m c l s p j k hj)
  isplitl [Ha]; · iexact Ha
  isplitl [HS]; · iexact HS
  iintro %r %hr Ha HS
  iapply (wp_stAcc c p)
  isplitl [Ha]; · iexists _; iexact Ha
  have hv : shapeCast (SAcc p) (plus p (sentV m p (slt l s) c) r) (castAcc p) = sentV m p (slt l s') c := by
    unfold plus
    rw [hr, sentV_slt, sentV_slt, sentV_slt, hs]
    show _ = shapeCast (SAcc p) (addf _ (sumV p _ s.val (tgt p (Fin.ofNat 3 s.val) c))) _
    rw [show Fin.ofNat 3 s.val = s from by fin_cases s <;> rfl]
  rw [hv]
  iintro Ha
  iapply Hk
  isplitl [Ha]; · iexact Ha
  iexact HS

/-- Chunk `p` of layer `l`'s first weight, in fast memory. -/
abbrev wChunk (l : Fin 3) (p : Fin 6) : sProp 𝕄 := own' c ((winM l).slice (colR p) (fun _ => rfl)) (colOf p (wIn m l c))

/-- A chunk's partial product is made. -/
theorem wp_mkPart (l : Fin 3) (p : Fin 6) {Q : PUnit → sProp 𝕄} :
    iprop(wChunk m c l p ∗ some' c (accM p) ∗ ((wChunk m c l p ∗ own' c (accM p) (sentV m p (slt l 0) c)) -∗ Q ⟨⟩))
      ⊢ WP c (mkPart l p (xV m l.castSucc c)) Q := by
  unfold mkPart
  iintro ⟨Hw, Ha, Hk⟩
  iapply (load_slice c (winM l) (colR p) (fun _ => rfl) (colOf p (wIn m l c)))
  isplitl [Hw]; · iexact Hw
  iintro Hw
  iapply (wp_stAcc c p)
  isplitl [Ha]; · iexact Ha
  rw [← sentV_zero]
  iintro Ha
  iapply Hk
  isplitl [Hw]; · iexact Hw
  iexact Ha

/-- A chunk is finished. -/
theorem wp_fin (l : Fin 3) (p : Fin 6) (j k : ℕ) (hj : rk (p, slt l 2) < j) {Q : FVec F S64x1024 .f32 → sProp 𝕄} :
    iprop(own' c (accM p) (sentV m p (slt l 2) c) ∗ own' c (woutM l) (wOut m l c) ∗ St m c j k
        ∗ ((some' c (accM p) ∗ own' c (woutM l) (wOut m l c) ∗ St m c j k)
            -∗ Q (accV (xV m l.castSucc) (wIn m l) (wOut m l) c (p.val + 1) p.isLt)))
      ⊢ WP c (fin l p (accV (xV m l.castSucc) (wIn m l) (wOut m l) c p.val p.isLt.le)) Q := by
  unfold fin
  iintro ⟨Ha, Hw, HS, Hk⟩
  iapply (wp_rdEx m c l 2 p j k hj)
  isplitl [Ha]; · iexact Ha
  isplitl [HS]; · iexact HS
  iintro %r %hr Ha HS
  have hv : hid p (sentV m p (slt l 2) c) r = hidC p (xV m l.castSucc) (wIn m l) c := by
    unfold hid plus
    rw [hr, sentV_slt, sentV_slt]; rfl
  rw [hv]
  have hrow := load_own (Q := Q) c (woutM l) (rowR p) (wOut m l c) (hl := View.loadsAt_vmem (posRow p))
    (k := fun w : FVec F (SRow p) .f32 => (.ret (accum p (accV (xV m l.castSucc) (wIn m l) (wOut m l) c p.val p.isLt.le)
      (hidC p (xV m l.castSucc) (wIn m l) c) w) : Pg F (FVec F S64x1024 .f32)))
  iapply hrow
  isplitl [Hw]; · iexact Hw
  iintro Hw
  iapply (show Q (accV (xV m l.castSucc) (wIn m l) (wOut m l) c (p.val + 1) p.isLt)
    ⊢ WP c ((fun w : FVec F (SRow p) .f32 => (.ret (accum p (accV (xV m l.castSucc) (wIn m l) (wOut m l) c p.val p.isLt.le)
      (hidC p (xV m l.castSucc) (wIn m l) c) w) : Pg F (FVec F S64x1024 .f32))) fun j => wOut m l c ((rowR p).emb j)) Q from WP_ret c _ Q)
  iapply Hk
  isplitl [Ha]; · iexists _; iexact Ha
  isplitl [Hw]; · iexact Hw
  iexact HS

/-! ## The phases -/

/-- A chunk's first exchange. -/
theorem wp_ph0 (l : Fin 3) (p : Fin 6) (j k : ℕ) (hk : rk (p, slt l 0) = k) (hj : j ≤ k) {Q : PUnit → sProp 𝕄} :
    iprop(env m K ∗ wChunk m c l p ∗ some' c (accM p) ∗ St m c j k ∗ ((wChunk m c l p ∗ St m c j (k + 1)) -∗ Q ⟨⟩))
      ⊢ WP c (ph0 c l p (xV m l.castSucc c)) Q := by
  unfold ph0
  rw [WP_bind]
  iintro ⟨#He, Hw, Ha, HS, Hk⟩
  iapply (wp_mkPart m c l p)
  isplitl [Hw]; · iexact Hw
  isplitl [Ha]; · iexact Ha
  iintro ⟨Hw, Ha⟩
  iapply (wp_snd m K c l 0 p j k hk hj)
  isplitr; · iexact He
  isplitl [Ha]; · iexact Ha
  isplitl [HS]; · iexact HS
  iintro HS
  iapply Hk
  isplitl [Hw]; · iexact Hw
  iexact HS

/-- A chunk's step from one exchange to the next. -/
theorem wp_ph1 (l s s' : Fin 3) (hs : s'.val = s.val + 1) (p : Fin 6) (j k : ℕ) (hj : rk (p, slt l s) = j) (hk : rk (p, slt l s') = k)
    {Q : PUnit → sProp 𝕄} :
    iprop(env m K ∗ St m c j k ∗ (St m c (j + 1) (k + 1) -∗ Q ⟨⟩)) ⊢ WP c (ph1 c l s s' p) Q := by
  have hjk : j < k := by rw [rk_slt] at hj hk; omega
  unfold ph1
  simp only [WP_bind]
  iintro ⟨#He, HS, Hk⟩
  iapply (wp_wtEx m K c l s p j k hj hjk)
  isplitr; · iexact He
  isplitl [HS]; · iexact HS
  iintro ⟨Ha, HS⟩
  iapply (wp_addEx m c l s s' hs p (j + 1) k (by omega))
  isplitl [Ha]; · iexact Ha
  isplitl [HS]; · iexact HS
  iintro ⟨Ha, HS⟩
  iapply (wp_snd m K c l s' p (j + 1) k hk hjk)
  isplitr; · iexact He
  isplitl [Ha]; · iexact Ha
  isplitl [HS]; · iexact HS
  iexact Hk

/-- A chunk's last exchange. -/
theorem wp_ph2 (l : Fin 3) (p : Fin 6) (j k : ℕ) (hj : rk (p, slt l 2) = j) (hk : j < k) {Q : FVec F S64x1024 .f32 → sProp 𝕄} :
    iprop(env m K ∗ own' c (woutM l) (wOut m l c) ∗ St m c j k
        ∗ ((some' c (accM p) ∗ own' c (woutM l) (wOut m l c) ∗ St m c (j + 1) k)
            -∗ Q (accV (xV m l.castSucc) (wIn m l) (wOut m l) c (p.val + 1) p.isLt)))
      ⊢ WP c (ph2 l p (accV (xV m l.castSucc) (wIn m l) (wOut m l) c p.val p.isLt.le)) Q := by
  unfold ph2
  rw [WP_bind]
  iintro ⟨#He, Hw, HS, Hk⟩
  iapply (wp_wtEx m K c l 2 p j k hj hk)
  isplitr; · iexact He
  isplitl [HS]; · iexact HS
  iintro ⟨Ha, HS⟩
  iapply (wp_fin m c l p (j + 1) k (by omega))
  isplitl [Ha]; · iexact Ha
  isplitl [Hw]; · iexact Hw
  isplitl [HS]; · iexact HS
  iexact Hk

end Cert.Mlp

end
-- ==== Proof.Parts.lean ====
/-
# Buffers in parts

A first weight's buffer is its six column chunks, a chunk's landing buffer is its nine slots.
-/
module

public import proofs.«01_k».proof.Proof.State

@[expose] public section

noncomputable section

namespace Cert.Mlp

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Families by their members -/

/-- A resource for each chunk, written out. -/
theorem bigSep_six (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ
/-- A resource for each copy, written out. -/
theorem bigSep_eleven (Φ : Fin 11 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10) :=
  bigSep_univ_eq_bigSepL [0, 1, 2, 3, 4, 5, 6, 7, 8, 9, 10] (by decide) (by decide) Φ
/-- A resource for each of three, written out. -/
theorem bigSep_three (Φ : Fin 3 → sProp 𝕄) : bigSep Finset.univ Φ = iprop(Φ 0 ∗ Φ 1 ∗ Φ 2) :=
  bigSep_univ_eq_bigSepL [0, 1, 2] (by decide) (by decide) Φ

/-! ## Ownership at some contents -/

section Some
variable (c : Dev nD) {sp : Space} {s : Shape} {e : EltTy} (M : Memref sig .tc sp s e)

/-- Owned at known contents, owned at some contents. -/
theorem own_some (X : s.Idx → Elt F e) : own' c M X ⊢ (some' c M : sProp 𝕄) := by
  iintro H; iexists X; iexact H
/-- Owned at some contents: its elements, at some contents of the buffer. -/
theorem some_elim : (some' c M : sProp 𝕄) ⊢ iprop(∃ f, M.view.loc (c : Thread nD τ) ↦[M.view.set]{fullShare} f) := by
  unfold some' own' owns
  iintro ⟨%X, %f, -, H⟩; iexists f; iexact H
/-- And back. -/
theorem some_intro : iprop(∃ f, M.view.loc (c : Thread nD τ) ↦[M.view.set]{fullShare} f) ⊢ (some' c M : sProp 𝕄) := by
  unfold some' own' owns
  iintro ⟨%f, H⟩; iexists _; iexists f
  isplitr; · ipureintro; rfl
  iexact H

/-- Of a whole buffer: the buffer's location at some contents. -/
theorem some_whole (h : M.IsWhole) : (some' c M : sProp 𝕄) ⊢ iprop(∃ f, M.view.loc (c : Thread nD τ) ↦{fullShare} f) := by
  have := some_elim (F := F) c M
  rw [h.set_eq_univ] at this; exact this
/-- And back. -/
theorem whole_some (h : M.IsWhole) : iprop(∃ f, M.view.loc (c : Thread nD τ) ↦{fullShare} f) ⊢ (some' c M : sProp 𝕄) := by
  have := some_intro (F := F) c M
  rw [h.set_eq_univ] at this; exact this

variable {T : Type} [Fintype T] [DecidableEq T] (r : T → Rect s) (hr : ∀ t a, (r t).stride a = 1)
  (hd : ∀ t t', t ≠ t' → Disjoint (r t).set (r t').set)
  (hcov : (Finset.univ : Finset T).biUnion (fun t => (r t).set) = Finset.univ)
include hd hcov

/-- A memref at some contents is its parts at some contents, -/
theorem some_parts : (some' c M : sProp 𝕄) ⊢ bigSep Finset.univ fun t => some' c (M.slice (r t) (hr t)) := by
  iintro ⟨%X, H⟩
  iapply (show (bigSep Finset.univ fun t => own' c (M.slice (r t) (hr t)) (fun j => X ((r t).emb j)))
    ⊢ (bigSep Finset.univ fun t => some' c (M.slice (r t) (hr t)) : sProp 𝕄) from
    bigSep_mono fun t _ => own_some c _ _)
  iapply (owns_rects (c : Thread nD τ) M fullShare r hr hd hcov X); iexact H

/-- and back. -/
theorem parts_some : (bigSep Finset.univ fun t => some' c (M.slice (r t) (hr t)) : sProp 𝕄) ⊢ some' c M := by
  refine BIBase.Entails.trans (bigSep_mono fun t _ => some_elim c (M.slice (r t) (hr t))) ?_
  have : Nonempty (Buf (Elt F) (M.view.loc (c : Thread nD τ))) := inferInstance
  refine BIBase.Entails.trans (bigSep_exists_pi Finset.univ
    (fun t (f : Buf (Elt F) (M.view.loc (c : Thread nD τ))) => (M.view.loc (c : Thread nD τ) ↦[(M.view.slice (r t)).set]{fullShare} f : sProp 𝕄))) ?_
  refine BIBase.Entails.trans ?_ (some_intro c M)
  have hset : M.view.set = (Finset.univ : Finset T).biUnion fun t => (M.view.slice (r t)).set := by
    refine Finset.Subset.antisymm (fun i hi => ?_) (Finset.biUnion_subset.mpr fun t _ => View.set_slice_subset _ _)
    obtain ⟨x, -, rfl⟩ := Finset.mem_map.mp hi
    have hx : x ∈ (Finset.univ : Finset T).biUnion fun t => (r t).set := by rw [hcov]; exact Finset.mem_univ x
    obtain ⟨t, ht, hx⟩ := Finset.mem_biUnion.mp hx
    exact Finset.mem_biUnion.mpr ⟨t, ht, by rw [View.set_slice]; exact Finset.mem_map_of_mem _ hx⟩
  iintro ⟨%fs, H⟩
  ihave H := (pointsTo_biUnion_join Finset.univ (fun t => (M.view.slice (r t)).set) fs (Classical.choice this)
    fun t _ t' _ h => by rw [View.set_slice, View.set_slice]; exact (Finset.disjoint_map _).mpr (hd t t' h)) $$ H
  icases H with ⟨%g, -, H⟩
  iexists g
  rw [hset]; iexact H

end Some

/-! ## The columns of a first weight -/

/-- An element lies in chunk `p`'s columns when its column does. -/
theorem col_mem (p : Fin 6) (x : S1024x2048.Idx) : x ∈ (colR p).set ↔ off p ≤ (x 1).val ∧ (x 1).val < off p + wid p := by
  rw [Rect.mem_set_unit, Fin.forall_fin_two]
  constructor
  · rintro ⟨-, h⟩; exact h
  · intro h; exact ⟨⟨Nat.zero_le _, by have := (x 0).isLt; show (x 0).val < 0 + 1024; have h2 : (x 0).val < 1024 := (x 0).isLt; omega⟩, h⟩

/-- Two chunks' columns are disjoint. -/
theorem col_disjoint (p p' : Fin 6) (h : p ≠ p') : Disjoint (colR p).set (colR p').set := by
  rw [Finset.disjoint_left]
  intro x hx hx'
  rw [col_mem] at hx hx'
  fin_cases p <;> fin_cases p' <;> first | exact h rfl | (simp only [off, wid] at hx hx'; omega)

/-- The six chunks' columns are all the columns. -/
theorem col_cover : (Finset.univ : Finset (Fin 6)).biUnion (fun p => (colR p).set) = Finset.univ := by
  ext x
  simp only [Finset.mem_biUnion, Finset.mem_univ, true_and, iff_true, col_mem]
  have hx : (x 1).val < 2048 := (x 1).isLt
  by_cases h0 : (x 1).val < 384
  · exact ⟨0, by show 0 ≤ _; omega, by show _ < 0 + 384; omega⟩
  by_cases h1 : (x 1).val < 768
  · exact ⟨1, by show 384 ≤ _; omega, by show _ < 384 + 384; omega⟩
  by_cases h2 : (x 1).val < 1152
  · exact ⟨2, by show 768 ≤ _; omega, by show _ < 768 + 384; omega⟩
  by_cases h3 : (x 1).val < 1536
  · exact ⟨3, by show 1152 ≤ _; omega, by show _ < 1152 + 384; omega⟩
  by_cases h4 : (x 1).val < 1792
  · exact ⟨4, by show 1536 ≤ _; omega, by show _ < 1536 + 256; omega⟩
  · exact ⟨5, by show 1792 ≤ _; omega, by show _ < 1792 + 256; omega⟩

/-! ## The slots of a landing buffer -/

/-- An element lies in slot `i` when its first coordinate is `i`. -/
theorem slot_mem (p : Fin 6) (i : Fin 9) (x : (SRecv p).Idx) : x ∈ (slotR p i).set ↔ (x 0).val = i.val := by
  rw [Rect.mem_set_unit]
  constructor
  · intro h
    have h0 : i.val ≤ (x 0).val ∧ (x 0).val < i.val + 1 := h 0
    omega
  · intro h a
    have h0 : (x 1).val < 64 := (x 1).isLt
    have h1 : (x 2).val < wid p := (x 2).isLt
    match a with
    | 0 => exact ⟨by show i.val ≤ (x 0).val; omega, by show (x 0).val < i.val + 1; omega⟩
    | 1 => exact ⟨Nat.zero_le _, by show (x 1).val < 0 + 64; omega⟩
    | 2 => exact ⟨Nat.zero_le _, by show (x 2).val < 0 + wid p; omega⟩

/-- Two slots are disjoint. -/
theorem slot_disjoint (p : Fin 6) (i i' : Fin 9) (h : i ≠ i') : Disjoint (slotR p i).set (slotR p i').set := by
  rw [Finset.disjoint_left]
  intro x hx hx'
  rw [slot_mem] at hx hx'
  exact h (Fin.ext (hx.symm.trans hx'))

/-- The nine slots are the whole landing buffer. -/
theorem slot_cover (p : Fin 6) : (Finset.univ : Finset (Fin 9)).biUnion (fun i => (slotR p i).set) = Finset.univ := by
  ext x
  simp only [Finset.mem_biUnion, Finset.mem_univ, true_and, iff_true, slot_mem]
  have hx : (x 0).val < 9 := (x 0).isLt
  exact ⟨⟨(x 0).val, hx⟩, rfl⟩

/-- A slot as a transfer addresses it has the elements of its rectangle. -/
theorem slot_set (p : Fin 6) (i : Fin 9) : (slotM p i).view.set = ((recvM p).slice (slotR p i) (fun _ => rfl)).view.set := View.set_reshape _ _

/-- A landing buffer at some contents is its slots at some contents, -/
theorem recv_slots (c : Dev nD) (p : Fin 6) : (some' c (recvM p) : sProp 𝕄) ⊢ bigSep Finset.univ fun i => some' c (slotM p i) :=
  BIBase.Entails.trans (some_parts c (recvM p) (slotR p) (fun _ _ => rfl) (slot_disjoint p) (slot_cover p))
    (bigSep_mono fun i _ => BIBase.Entails.trans (some_elim c _) (BIBase.Entails.trans (by rw [← slot_set p i]) (some_intro c (slotM p i))))
/-- and back. -/
theorem slots_recv (c : Dev nD) (p : Fin 6) : (bigSep Finset.univ fun i => some' c (slotM p i) : sProp 𝕄) ⊢ some' c (recvM p) :=
  BIBase.Entails.trans (bigSep_mono fun i _ => BIBase.Entails.trans (some_elim c (slotM p i))
      (BIBase.Entails.trans (by rw [slot_set p i]) (some_intro c ((recvM p).slice (slotR p i) (fun _ => rfl)))))
    (parts_some c (recvM p) (slotR p) (fun _ _ => rfl) (slot_disjoint p) (slot_cover p))

end Cert.Mlp

end
-- ==== Proof.Layers.lean ====
/-
# The copies, the layers and the body

Each stretch of the body with what it takes and what it leaves, down to the whole body.
-/
module

public import proofs.«01_k».proof.Proof.Parts

@[expose] public section

noncomputable section

namespace Cert.Mlp

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Kd → ℕ) (c : Dev nD)

/-! ## The local copies -/

/-- The copy of chunk `p` of the first layer's first weight. -/
abbrev kCol (p : Fin 6) : Fin 11 := Fin.castLE (by decide) p

/-- What each copy takes. -/
def cpPre : Fin 11 → sProp 𝕄
  | 0 => colPre m c 0 | 1 => colPre m c 1 | 2 => colPre m c 2 | 3 => colPre m c 3 | 4 => colPre m c 4 | 5 => colPre m c 5
  | 6 => woutPre m c 0 | 7 => winPre m c 1 | 8 => woutPre m c 1 | 9 => winPre m c 2 | 10 => woutPre m c 2

/-- What the copy of a column chunk takes. -/
theorem cpPre_col (p : Fin 6) : cpPre m c (kCol p) = colPre m c p := by fin_cases p <;> rfl
/-- What the copy of a later layer's first weight takes. -/
theorem cpPre_win (l : Fin 3) (hl : l ≠ 0) : cpPre m c (kWin l) = winPre m c l := by fin_cases l; exact absurd rfl hl; all_goals rfl
/-- What the copy of a second weight takes. -/
theorem cpPre_wout (l : Fin 3) : cpPre m c (kWout l) = woutPre m c l := by fin_cases l <;> rfl
/-- What the copy of a later layer's first weight leaves. -/
theorem cpPay_win (l : Fin 3) (hl : l ≠ 0) : cpPay m c (kWin l) = winPay m c l := by fin_cases l; exact absurd rfl hl; all_goals rfl
/-- What the copy of a second weight leaves. -/
theorem cpPay_wout (l : Fin 3) : cpPay m c (kWout l) = woutPay m c l := by fin_cases l <;> rfl
/-- What the copy of a whole first weight counts. -/
theorem nC_win (l : Fin 3) (hl : l ≠ 0) : (winM l).view.dmaCredit = nC (kWin l) := by fin_cases l; exact absurd rfl hl; all_goals rfl
/-- What the copy of a second weight counts. -/
theorem nC_wout (l : Fin 3) : (woutM l).view.dmaCredit = nC (kWout l) := by fin_cases l <;> rfl

/-- A copy to be started; a copy to be awaited. -/
def cpRes (k : Fin 11) : sProp 𝕄 := iprop(cpPre m c k ∗ tok c (kCp k) 0)
abbrev cpWait (k : Fin 11) : sProp 𝕄 := crd c (kCp k) (nC k)

/-- Starting the copy of a column chunk. -/
theorem wp_cpCol (p : Fin 6) {Q : PUnit → sProp 𝕄} :
    iprop(env m K ∗ cpRes m c (kCol p) ∗ (cpWait c (kCol p) -∗ Q ⟨⟩)) ⊢ WP c (cpCol p) Q := by
  unfold cpRes cpCol
  rw [cpPre_col]; unfold colPre
  iintro ⟨#He, ⟨⟨Hd, Hs⟩, Ht⟩, Hk⟩
  iapply (wp_cp m K c (kCol p) _ _ (colOf p (wIn m 0 c)) (nC_col p) (by rw [cpPay_col]; exact .rfl))
  isplitr; · iexact He
  isplitl [Hd]; · iexact Hd
  isplitl [Hs]; · iexact Hs
  isplitl [Ht]; · iexact Ht
  iexact Hk

/-- Starting the copy of a later layer's first weight. -/
theorem wp_cpWin (l : Fin 3) (hl : l ≠ 0) {Q : PUnit → sProp 𝕄} :
    iprop(env m K ∗ cpRes m c (kWin l) ∗ (cpWait c (kWin l) -∗ Q ⟨⟩)) ⊢ WP c (cpWin l) Q := by
  unfold cpRes cpWin
  rw [cpPre_win m c l hl]; unfold winPre
  iintro ⟨#He, ⟨⟨Hd, Hs⟩, Ht⟩, Hk⟩
  iapply (wp_cp m K c (kWin l) _ _ (wIn m l c) (nC_win l hl) (by rw [cpPay_win m c l hl]; exact .rfl))
  isplitr; · iexact He
  isplitl [Hd]; · iexact Hd
  isplitl [Hs]; · iexact Hs
  isplitl [Ht]; · iexact Ht
  iexact Hk

/-- Starting the copy of a second weight. -/
theorem wp_cpWout (l : Fin 3) {Q : PUnit → sProp 𝕄} :
    iprop(env m K ∗ cpRes m c (kWout l) ∗ (cpWait c (kWout l) -∗ Q ⟨⟩)) ⊢ WP c (cpWout l) Q := by
  unfold cpRes cpWout
  rw [cpPre_wout m c l]; unfold woutPre
  iintro ⟨#He, ⟨⟨Hd, Hs⟩, Ht⟩, Hk⟩
  iapply (wp_cp m K c (kWout l) _ _ (wOut m l c) (nC_wout l) (by rw [cpPay_wout m c l]; exact .rfl))
  isplitr; · iexact He
  isplitl [Hd]; · iexact Hd
  isplitl [Hs]; · iexact Hs
  isplitl [Ht]; · iexact Ht
  iexact Hk

/-- All the copies are started. -/
theorem wp_copies {Q : PUnit → sProp 𝕄} :
    iprop(env m K ∗ bigSep Finset.univ (cpRes m c) ∗ (bigSep Finset.univ (cpWait c) -∗ Q ⟨⟩)) ⊢ WP c copies Q := by
  unfold copies
  simp only [WP_bind, bigSep_eleven]
  iintro ⟨#He, ⟨H0, H1, H2, H3, H4, H5, H6, H7, H8, H9, H10⟩, Hk⟩
  iapply (wp_cpCol m K c 0); isplitr; · iexact He
  isplitl [H0]; · iexact H0
  iintro H0
  iapply (wp_cpCol m K c 1); isplitr; · iexact He
  isplitl [H1]; · iexact H1
  iintro H1
  iapply (wp_cpCol m K c 2); isplitr; · iexact He
  isplitl [H2]; · iexact H2
  iintro H2
  iapply (wp_cpCol m K c 3); isplitr; · iexact He
  isplitl [H3]; · iexact H3
  iintro H3
  iapply (wp_cpCol m K c 4); isplitr; · iexact He
  isplitl [H4]; · iexact H4
  iintro H4
  iapply (wp_cpCol m K c 5); isplitr; · iexact He
  isplitl [H5]; · iexact H5
  iintro H5
  iapply (wp_cpWout m K c 0); isplitr; · iexact He
  isplitl [H6]; · iexact H6
  iintro H6
  iapply (wp_cpWin m K c 1 (by decide)); isplitr; · iexact He
  isplitl [H7]; · iexact H7
  iintro H7
  iapply (wp_cpWout m K c 1); isplitr; · iexact He
  isplitl [H8]; · iexact H8
  iintro H8
  iapply (wp_cpWin m K c 2 (by decide)); isplitr; · iexact He
  isplitl [H9]; · iexact H9
  iintro H9
  iapply (wp_cpWout m K c 2); isplitr; · iexact He
  isplitl [H10]; · iexact H10
  iintro H10
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-! ## Waiting for them -/

/-- A copy under way, and the position of its semaphore. -/
def cpFly (k : Fin 11) : sProp 𝕄 := iprop(cpWait c k ∗ pos0 c (kCp k))
/-- A copy ended: its payload, and its semaphore at zero. -/
def cpDone (k : Fin 11) : sProp 𝕄 := iprop(cpPay m c k ∗ zero c (kCp k))

/-- Chunk `p`'s place in the operand of the first layer's first weight. -/
abbrev aChunk (p : Fin 6) : sProp 𝕄 := own' c ((winA 0).slice (colR p) (fun _ => rfl)) (colOf p (wIn m 0 c))

/-- Waiting for the copy of a column chunk gives the chunk in fast memory and where it came from. -/
theorem wp_wtCol (p : Fin 6) (n : ℕ) {Q : PUnit → sProp 𝕄} :
    iprop(env m K ∗ cpFly c (kCol p) ∗ owing c (oweN n c)
        ∗ ((wChunk m c 0 p ∗ aChunk m c p ∗ zero c (kCp (kCol p)) ∗ owing c (oweN n c)) -∗ Q ⟨⟩))
      ⊢ WP c (wtCol p) Q := by
  unfold wtCol cpFly
  iintro ⟨#He, ⟨Hc, Hp⟩, Ho, Hk⟩
  iapply (wait_own m K c (.inl (kCol p)) n (sem := cpS (kCol p)) rfl (nC_col p) (by show 0 < 2 + n; omega))
  isplitr; · iexact He
  isplitl [Hc]; · iexact Hc
  isplitl [Hp]; · iexact Hp
  isplitl [Ho]; · iexact Ho
  iintro ⟨Ho, Hz, Hpay⟩
  ihave Hpay := (show pay m c (kCp (kCol p)) 0 ⊢ iprop(wChunk m c 0 p ∗ aChunk m c p) from by
    show cpPay m c (kCol p) ⊢ _
    rw [cpPay_col]; exact .rfl) $$ Hpay
  icases Hpay with ⟨Hw, Ha⟩
  iapply (WP_ret c)
  iapply Hk
  isplitl [Hw]; · iexact Hw
  isplitl [Ha]; · iexact Ha
  isplitl [Hz]; · iexact Hz
  iexact Ho

/-- The six chunks of a first weight in fast memory; the six buffers of partial sums. -/
def wChunks (l : Fin 3) : sProp 𝕄 :=
  iprop(wChunk m c l 0 ∗ wChunk m c l 1 ∗ wChunk m c l 2 ∗ wChunk m c l 3 ∗ wChunk m c l 4 ∗ wChunk m c l 5)
def accs : sProp 𝕄 :=
  iprop(some' c (accM 0) ∗ some' c (accM 1) ∗ some' c (accM 2) ∗ some' c (accM 3) ∗ some' c (accM 4) ∗ some' c (accM 5))

/-- A whole first weight in fast memory is its six chunks. -/
theorem win_chunks (l : Fin 3) : own' c (winM l) (wIn m l c) ⊢ wChunks m c l := by
  have h := owns_rects (Val := Elt F) (Ix := Unit) (Name := ℕ) (U := UU) (Lvl := ℕ) (c : Thread nD τ) (winM l) fullShare colR (fun _ _ => rfl) col_disjoint col_cover (wIn m l c)
  refine h.trans ?_
  unfold wChunks
  rw [← bigSep_six (fun p => wChunk m c l p)]
  exact .rfl

/-- Waiting for a later layer's first weight gives its six chunks in fast memory and the argument. -/
theorem wp_wtWin (l : Fin 3) (hl : l ≠ 0) (j k : ℕ) {Q : PUnit → sProp 𝕄} :
    iprop(env m K ∗ cpFly c (kWin l) ∗ St m c j k
        ∗ ((wChunks m c l ∗ own' c (winA l) (wIn m l c) ∗ zero c (kCp (kWin l)) ∗ St m c j k) -∗ Q ⟨⟩))
      ⊢ WP c (wtWin l) Q := by
  unfold wtWin cpFly St
  iintro ⟨#He, ⟨Hc, Hp⟩, ⟨H1, H2, H3, H4, Ho⟩, Hk⟩
  iapply (wait_own m K c (.inl (kWin l)) k (sem := cpS (kWin l)) rfl (nC_win l hl) (by show 0 < 2 + k; omega))
  isplitr; · iexact He
  isplitl [Hc]; · iexact Hc
  isplitl [Hp]; · iexact Hp
  isplitl [Ho]; · iexact Ho
  iintro ⟨Ho, Hz, Hpay⟩
  ihave Hpay := (show pay m c (kCp (kWin l)) 0 ⊢ iprop(own' c (winM l) (wIn m l c) ∗ own' c (winA l) (wIn m l c)) from by
    show cpPay m c (kWin l) ⊢ _
    rw [cpPay_win m c l hl]; exact .rfl) $$ Hpay
  icases Hpay with ⟨Hw, Ha⟩
  ihave Hw := (win_chunks m c l) $$ Hw
  iapply (WP_ret c)
  iapply Hk
  isplitl [Hw]; · iexact Hw
  isplitl [Ha]; · iexact Ha
  isplitl [Hz]; · iexact Hz
  isplitl [H1]; · iexact H1
  isplitl [H2]; · iexact H2
  isplitl [H3]; · iexact H3
  isplitl [H4]; · iexact H4
  iexact Ho

/-- Waiting for a second weight gives it in fast memory and the argument. -/
theorem wp_wtWout (l : Fin 3) (j k : ℕ) {Q : PUnit → sProp 𝕄} :
    iprop(env m K ∗ cpFly c (kWout l) ∗ St m c j k
        ∗ ((own' c (woutM l) (wOut m l c) ∗ own' c (woutA l) (wOut m l c) ∗ zero c (kCp (kWout l)) ∗ St m c j k) -∗ Q ⟨⟩))
      ⊢ WP c (wtWout l) Q := by
  unfold wtWout cpFly St
  iintro ⟨#He, ⟨Hc, Hp⟩, ⟨H1, H2, H3, H4, Ho⟩, Hk⟩
  iapply (wait_own m K c (.inl (kWout l)) k (sem := cpS (kWout l)) rfl (nC_wout l) (by show 0 < 2 + k; omega))
  isplitr; · iexact He
  isplitl [Hc]; · iexact Hc
  isplitl [Hp]; · iexact Hp
  isplitl [Ho]; · iexact Ho
  iintro ⟨Ho, Hz, Hpay⟩
  ihave Hpay := (show pay m c (kCp (kWout l)) 0 ⊢ iprop(own' c (woutM l) (wOut m l c) ∗ own' c (woutA l) (wOut m l c)) from by
    show cpPay m c (kWout l) ⊢ _
    rw [cpPay_wout m c l]; exact .rfl) $$ Hpay
  icases Hpay with ⟨Hw, Ha⟩
  iapply (WP_ret c)
  iapply Hk
  isplitl [Hw]; · iexact Hw
  isplitl [Ha]; · iexact Ha
  isplitl [Hz]; · iexact Hz
  isplitl [H1]; · iexact H1
  isplitl [H2]; · iexact H2
  isplitl [H3]; · iexact H3
  isplitl [H4]; · iexact H4
  iexact Ho

/-! ## The phases of a layer -/

/-- One step of all six chunks. -/
theorem wp_phs1 (l s s' : Fin 3) (hs : s'.val = s.val + 1) (n : ℕ) (hn : n = 18 * l.val + 6 * s.val) {Q : PUnit → sProp 𝕄} :
    iprop(env m K ∗ St m c n (n + 6) ∗ (St m c (n + 6) (n + 12) -∗ Q ⟨⟩)) ⊢ WP c (phs1 c l s s') Q := by
  have hj (p : Fin 6) : rk (p, slt l s) = n + p.val := by rw [rk_slt, hn]
  have hk (p : Fin 6) : rk (p, slt l s') = n + 6 + p.val := by rw [rk_slt, hn, hs]; omega
  unfold phs1
  simp only [WP_bind]
  iintro ⟨#He, HS, Hk⟩
  iapply (wp_ph1 m K c l s s' hs 0 n (n + 6) (hj 0) (hk 0)); isplitr; · iexact He
  isplitl [HS]; · iexact HS
  iintro HS
  iapply (wp_ph1 m K c l s s' hs 1 (n + 1) (n + 6 + 1) (hj 1) (hk 1)); isplitr; · iexact He
  isplitl [HS]; · iexact HS
  iintro HS
  iapply (wp_ph1 m K c l s s' hs 2 (n + 1 + 1) (n + 6 + 1 + 1) (hj 2) (hk 2)); isplitr; · iexact He
  isplitl [HS]; · iexact HS
  iintro HS
  iapply (wp_ph1 m K c l s s' hs 3 (n + 1 + 1 + 1) (n + 6 + 1 + 1 + 1) (hj 3) (hk 3)); isplitr; · iexact He
  isplitl [HS]; · iexact HS
  iintro HS
  iapply (wp_ph1 m K c l s s' hs 4 (n + 1 + 1 + 1 + 1) (n + 6 + 1 + 1 + 1 + 1) (hj 4) (hk 4)); isplitr; · iexact He
  isplitl [HS]; · iexact HS
  iintro HS
  iapply (wp_ph1 m K c l s s' hs 5 (n + 1 + 1 + 1 + 1 + 1) (n + 6 + 1 + 1 + 1 + 1 + 1) (hj 5) (hk 5)); isplitr; · iexact He
  isplitl [HS]; · iexact HS
  iintro HS
  iapply Hk; iexact HS

/-- The second product of a layer after `n` chunks. -/
abbrev accL (l : Fin 3) (n : ℕ) (h : n ≤ 6) : FVec F S64x1024 .f32 := accV (xV m l.castSucc) (wIn m l) (wOut m l) c n h

/-- A chunk's last phase, as the `n`-th: from the second product of `n` chunks to that of `n + 1`. -/
theorem wp_ph2_at (l : Fin 3) (p : Fin 6) (n : ℕ) (hn : p.val = n) (h : n ≤ 6) (h' : n + 1 ≤ 6) (j k : ℕ) (hj : rk (p, slt l 2) = j) (hk : j < k)
    {Q : FVec F S64x1024 .f32 → sProp 𝕄} :
    iprop(env m K ∗ own' c (woutM l) (wOut m l c) ∗ St m c j k
        ∗ ((some' c (accM p) ∗ own' c (woutM l) (wOut m l c) ∗ St m c (j + 1) k) -∗ Q (accL m c l (n + 1) h')))
      ⊢ WP c (ph2 l p (accL m c l n h)) Q := by
  subst hn; exact wp_ph2 m K c l p j k hj hk

/-- Its end once its exchange is over: the last sum, the clamp, and the chunk's share of the second product. -/
theorem wp_fin_at (l : Fin 3) (p : Fin 6) (n : ℕ) (hn : p.val = n) (h : n ≤ 6) (h' : n + 1 ≤ 6) (j k : ℕ) (hj : rk (p, slt l 2) < j)
    {Q : FVec F S64x1024 .f32 → sProp 𝕄} :
    iprop(own' c (accM p) (sentV m p (slt l 2) c) ∗ own' c (woutM l) (wOut m l c) ∗ St m c j k
        ∗ ((some' c (accM p) ∗ own' c (woutM l) (wOut m l c) ∗ St m c j k) -∗ Q (accL m c l (n + 1) h')))
      ⊢ WP c (fin l p (accL m c l n h)) Q := by
  subst hn; exact wp_fin m c l p j k hj

/-- The last step of all six chunks, and the second product. -/
theorem wp_phs2 (l : Fin 3) (n : ℕ) (hn : n = 18 * l.val + 12) {Q : FVec F S64x1024 .f32 → sProp 𝕄} :
    iprop(env m K ∗ cpFly c (kWout l) ∗ St m c n (n + 6)
        ∗ ((accs c ∗ own' c (woutM l) (wOut m l c) ∗ own' c (woutA l) (wOut m l c) ∗ zero c (kCp (kWout l)) ∗ St m c (n + 6) (n + 6))
            -∗ Q (xV m l.succ c)))
      ⊢ WP c (phs2 l) Q := by
  have hj (p : Fin 6) : rk (p, slt l 2) = n + p.val := by rw [rk_slt, hn]; rfl
  unfold phs2
  simp only [WP_bind]
  rw [show (zeroX : FVec F S64x1024 .f32) = accL m c l 0 (by omega) from rfl]
  rw [show xV m l.succ c = accL m c l 6 (le_refl 6) from by rw [xV_succ]; rfl]
  iintro ⟨#He, Hcp, HS, Hk⟩
  iapply (wp_wtEx m K c l 2 0 n (n + 6) (hj 0) (by omega)); isplitr; · iexact He
  isplitl [HS]; · iexact HS
  iintro ⟨A0, HS⟩
  iapply (wp_wtWout m K c l (n + 1) (n + 6)); isplitr; · iexact He
  isplitl [Hcp]; · iexact Hcp
  isplitl [HS]; · iexact HS
  iintro ⟨Hw, Ha, Hz, HS⟩
  iapply (wp_fin_at m c l 0 0 rfl _ (by omega) (n + 1) (n + 6) (by rw [hj]; show n + 0 < _; omega))
  isplitl [A0]; · iexact A0
  isplitl [Hw]; · iexact Hw
  isplitl [HS]; · iexact HS
  iintro ⟨A0, Hw, HS⟩
  iapply (wp_ph2_at m K c l 1 (0 + 1) rfl _ (by omega) (n + 1) (n + 6) (hj 1) (by omega)); isplitr; · iexact He
  isplitl [Hw]; · iexact Hw
  isplitl [HS]; · iexact HS
  iintro ⟨A1, Hw, HS⟩
  iapply (wp_ph2_at m K c l 2 (0 + 1 + 1) rfl _ (by omega) (n + 1 + 1) (n + 6) (hj 2) (by omega)); isplitr; · iexact He
  isplitl [Hw]; · iexact Hw
  isplitl [HS]; · iexact HS
  iintro ⟨A2, Hw, HS⟩
  iapply (wp_ph2_at m K c l 3 (0 + 1 + 1 + 1) rfl _ (by omega) (n + 1 + 1 + 1) (n + 6) (hj 3) (by omega)); isplitr; · iexact He
  isplitl [Hw]; · iexact Hw
  isplitl [HS]; · iexact HS
  iintro ⟨A3, Hw, HS⟩
  iapply (wp_ph2_at m K c l 4 (0 + 1 + 1 + 1 + 1) rfl _ (by omega) (n + 1 + 1 + 1 + 1) (n + 6) (hj 4) (by omega)); isplitr; · iexact He
  isplitl [Hw]; · iexact Hw
  isplitl [HS]; · iexact HS
  iintro ⟨A4, Hw, HS⟩
  iapply (wp_ph2_at m K c l 5 (0 + 1 + 1 + 1 + 1 + 1) rfl _ (by omega) (n + 1 + 1 + 1 + 1 + 1) (n + 6) (hj 5) (by omega)); isplitr; · iexact He
  isplitl [Hw]; · iexact Hw
  isplitl [HS]; · iexact HS
  iintro ⟨A5, Hw, HS⟩
  iapply Hk
  isplitl [A0 A1 A2 A3 A4 A5]
  · unfold accs
    isplitl [A0]; · iexact A0
    isplitl [A1]; · iexact A1
    isplitl [A2]; · iexact A2
    isplitl [A3]; · iexact A3
    isplitl [A4]; · iexact A4
    iexact A5
  isplitl [Hw]; · iexact Hw
  isplitl [Ha]; · iexact Ha
  isplitl [Hz]; · iexact Hz
  iexact HS

/-- A layer whose first exchanges are started. -/
theorem wp_rest (l : Fin 3) (n : ℕ) (hn : n = 18 * l.val) {Q : FVec F S64x1024 .f32 → sProp 𝕄} :
    iprop(env m K ∗ cpFly c (kWout l) ∗ St m c n (n + 6)
        ∗ ((accs c ∗ own' c (woutM l) (wOut m l c) ∗ own' c (woutA l) (wOut m l c) ∗ zero c (kCp (kWout l)) ∗ St m c (n + 18) (n + 18))
            -∗ Q (xV m l.succ c)))
      ⊢ WP c (rest c l) Q := by
  unfold rest
  simp only [WP_bind]
  iintro ⟨#He, Hcp, HS, Hk⟩
  iapply (wp_phs1 m K c l 0 1 rfl n (by rw [hn]; rfl)); isplitr; · iexact He
  isplitl [HS]; · iexact HS
  iintro HS
  iapply (wp_phs1 m K c l 1 2 rfl (n + 6) (by rw [hn]; rfl)); isplitr; · iexact He
  isplitl [HS]; · iexact HS
  iintro HS
  iapply (wp_phs2 m K c l (n + 12) (by rw [hn])); isplitr; · iexact He
  isplitl [Hcp]; · iexact Hcp
  isplitl [HS]; · iexact HS
  iexact Hk

/-- The first exchanges of a later layer. -/
theorem wp_open1 (l : Fin 3) (hl : l ≠ 0) (n : ℕ) (hn : n = 18 * l.val) {Q : PUnit → sProp 𝕄} :
    iprop(env m K ∗ cpFly c (kWin l) ∗ accs c ∗ St m c n n
        ∗ ((wChunks m c l ∗ own' c (winA l) (wIn m l c) ∗ zero c (kCp (kWin l)) ∗ St m c n (n + 6)) -∗ Q ⟨⟩))
      ⊢ WP c (open1 c l (xV m l.castSucc c)) Q := by
  have hk (p : Fin 6) : rk (p, slt l 0) = n + p.val := by rw [rk_slt, hn]; rfl
  unfold open1 accs
  simp only [WP_bind]
  iintro ⟨#He, Hcp, ⟨A0, A1, A2, A3, A4, A5⟩, HS, Hk⟩
  iapply (wp_wtWin m K c l hl n n); isplitr; · iexact He
  isplitl [Hcp]; · iexact Hcp
  isplitl [HS]; · iexact HS
  unfold wChunks
  iintro ⟨⟨W0, W1, W2, W3, W4, W5⟩, Ha, Hz, HS⟩
  iapply (wp_ph0 m K c l 0 n n (hk 0) (by omega)); isplitr; · iexact He
  isplitl [W0]; · iexact W0
  isplitl [A0]; · iexact A0
  isplitl [HS]; · iexact HS
  iintro ⟨W0, HS⟩
  iapply (wp_ph0 m K c l 1 n (n + 1) (hk 1) (by omega)); isplitr; · iexact He
  isplitl [W1]; · iexact W1
  isplitl [A1]; · iexact A1
  isplitl [HS]; · iexact HS
  iintro ⟨W1, HS⟩
  iapply (wp_ph0 m K c l 2 n (n + 1 + 1) (hk 2) (by omega)); isplitr; · iexact He
  isplitl [W2]; · iexact W2
  isplitl [A2]; · iexact A2
  isplitl [HS]; · iexact HS
  iintro ⟨W2, HS⟩
  iapply (wp_ph0 m K c l 3 n (n + 1 + 1 + 1) (hk 3) (by omega)); isplitr; · iexact He
  isplitl [W3]; · iexact W3
  isplitl [A3]; · iexact A3
  isplitl [HS]; · iexact HS
  iintro ⟨W3, HS⟩
  iapply (wp_ph0 m K c l 4 n (n + 1 + 1 + 1 + 1) (hk 4) (by omega)); isplitr; · iexact He
  isplitl [W4]; · iexact W4
  isplitl [A4]; · iexact A4
  isplitl [HS]; · iexact HS
  iintro ⟨W4, HS⟩
  iapply (wp_ph0 m K c l 5 n (n + 1 + 1 + 1 + 1 + 1) (hk 5) (by omega)); isplitr; · iexact He
  isplitl [W5]; · iexact W5
  isplitl [A5]; · iexact A5
  isplitl [HS]; · iexact HS
  iintro ⟨W5, HS⟩
  iapply Hk
  isplitl [W0 W1 W2 W3 W4 W5]
  · isplitl [W0]; · iexact W0
    isplitl [W1]; · iexact W1
    isplitl [W2]; · iexact W2
    isplitl [W3]; · iexact W3
    isplitl [W4]; · iexact W4
    iexact W5
  isplitl [Ha]; · iexact Ha
  isplitl [Hz]; · iexact Hz
  iexact HS

/-- The first layer's chunk once its copy has come: its first exchange. -/
theorem wp_colPh0 (p : Fin 6) (k : ℕ) (hk : rk (p, slt 0 0) = k) (x : FVec F S64x1024 .f32) (hx : x = xV m 0 c) {Q : PUnit → sProp 𝕄} :
    iprop(env m K ∗ cpFly c (kCol p) ∗ some' c (accM p) ∗ St m c 0 k
        ∗ ((wChunk m c 0 p ∗ aChunk m c p ∗ zero c (kCp (kCol p)) ∗ St m c 0 (k + 1)) -∗ Q ⟨⟩))
      ⊢ WP c (wtCol p) (fun _ => WP c (ph0 c 0 p x) Q) := by
  subst hx
  iintro ⟨#He, Hcp, HA, HS, Hk⟩
  unfold St
  icases HS with ⟨H1, H2, H3, H4, Ho⟩
  iapply (wp_wtCol m K c p k); isplitr; · iexact He
  isplitl [Hcp]; · iexact Hcp
  isplitl [Ho]; · iexact Ho
  iintro ⟨Hw, Ha, Hz, Ho⟩
  iapply (wp_ph0 m K c 0 p 0 k hk (Nat.zero_le _)); isplitr; · iexact He
  isplitl [Hw]; · iexact Hw
  isplitl [HA]; · iexact HA
  isplitl [H1 H2 H3 H4 Ho]
  · unfold St
    isplitl [H1]; · iexact H1
    isplitl [H2]; · iexact H2
    isplitl [H3]; · iexact H3
    isplitl [H4]; · iexact H4
    iexact Ho
  unfold St
  iintro ⟨Hw, HS⟩
  iapply Hk
  isplitl [Hw]; · iexact Hw
  isplitl [Ha]; · iexact Ha
  isplitl [Hz]; · iexact Hz
  iexact HS

end Cert.Mlp

end
-- ==== Proof.Body.lean ====
/-
# The body

What a device takes into the body, what it brings out of it, and that the body runs from the one to the other.
-/
module

public import proofs.«01_k».proof.Proof.Layers

@[expose] public section

noncomputable section

namespace Cert.Mlp

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Kd → ℕ) (c : Dev nD)

/-- The tokens of the exchanges a device starts. -/
def exToks (e : Ex) : sProp 𝕄 := iprop(tok c (kSnd e) 0 ∗ tok (pt e c) (kRcv e) 0)

/-- The partners' slots and the tokens are what the exchanges take. -/
theorem sendRes_all :
    iprop((bigSep Finset.univ fun e : Ex => some' (pt e c) (slotM e.1 e.2)) ∗ bigSep Finset.univ (exToks c)) ⊢ (bigSep (frm 0) (sendRes c) : sProp 𝕄) := by
  rw [← bigSep_sep', frm_zero]; exact .rfl

/-- The first weight's operand in its chunks. -/
def aChunks : sProp 𝕄 := iprop(aChunk m c 0 ∗ aChunk m c 1 ∗ aChunk m c 2 ∗ aChunk m c 3 ∗ aChunk m c 4 ∗ aChunk m c 5)

/-- The first layer's copies under way, and ended. -/
def colFlys : sProp 𝕄 := iprop(cpFly c 0 ∗ cpFly c 1 ∗ cpFly c 2 ∗ cpFly c 3 ∗ cpFly c 4 ∗ cpFly c 5)
def colZeros : sProp 𝕄 := iprop(zero c (kCp 0) ∗ zero c (kCp 1) ∗ zero c (kCp 2) ∗ zero c (kCp 3) ∗ zero c (kCp 4) ∗ zero c (kCp 5))

/-- The first layer's first exchanges. -/
theorem wp_open0 {Q : PUnit → sProp 𝕄} :
    iprop(env m K ∗ colFlys c ∗ accs c ∗ (crd c kBar 3 ∗ pos0 c kBar) ∗ bigSep Finset.univ (exToks c) ∗ bigSep Finset.univ (waitRes c)
        ∗ owing c (oweN 0 c)
        ∗ ((wChunks m c 0 ∗ aChunks m c ∗ colZeros c ∗ zero c kBar ∗ St m c 0 6) -∗ Q ⟨⟩))
      ⊢ WP c (open0 c (xV m 0 c)) Q := by
  have hk (p : Fin 6) : rk (p, slt 0 0) = p.val := by rw [rk_slt]; show 0 + 0 + p.val = _; omega
  unfold open0 accs colFlys
  simp only [WP_bind]
  iintro ⟨#He, ⟨C0, C1, C2, C3, C4, C5⟩, ⟨A0, A1, A2, A3, A4, A5⟩, ⟨Hc, Hp⟩, Ht, Hw, Ho, Hk⟩
  iapply (wp_wtCol m K c 0 0); isplitr; · iexact He
  isplitl [C0]; · iexact C0
  isplitl [Ho]; · iexact Ho
  iintro ⟨W0, V0, Z0, Ho⟩
  iapply (wp_mkPart m c 0 0)
  isplitl [W0]; · iexact W0
  isplitl [A0]; · iexact A0
  iintro ⟨W0, A0⟩
  iapply (wp_wtBar m K c); isplitr; · iexact He
  isplitl [Hc]; · iexact Hc
  isplitl [Hp]; · iexact Hp
  isplitl [Ho]; · iexact Ho
  iintro ⟨Ho, Zb, Hs⟩
  iapply (wp_snd m K c 0 0 0 0 0 (hk 0) (le_refl 0)); isplitr; · iexact He
  isplitl [A0]; · iexact A0
  isplitl [Hs Ht Hw Ho]
  · unfold St
    isplitl [Hs Ht]
    · iapply (sendRes_all c)
      isplitl [Hs]; · iexact Hs
      iexact Ht
    isplitl [Hw]; · rw [frm_zero]; iexact Hw
    isplitr; · rw [fly_same, bigSep_empty]; iempintro
    isplitr; · rw [bef_zero, bigSep_empty]; iempintro
    iexact Ho
  iintro HS
  iapply (wp_colPh0 m K c 1 (0 + 1) (hk 1) _ rfl); isplitr; · iexact He
  isplitl [C1]; · iexact C1
  isplitl [A1]; · iexact A1
  isplitl [HS]; · iexact HS
  iintro ⟨W1, V1, Z1, HS⟩
  iapply (wp_colPh0 m K c 2 (0 + 1 + 1) (hk 2) _ rfl); isplitr; · iexact He
  isplitl [C2]; · iexact C2
  isplitl [A2]; · iexact A2
  isplitl [HS]; · iexact HS
  iintro ⟨W2, V2, Z2, HS⟩
  iapply (wp_colPh0 m K c 3 (0 + 1 + 1 + 1) (hk 3) _ rfl); isplitr; · iexact He
  isplitl [C3]; · iexact C3
  isplitl [A3]; · iexact A3
  isplitl [HS]; · iexact HS
  iintro ⟨W3, V3, Z3, HS⟩
  iapply (wp_colPh0 m K c 4 (0 + 1 + 1 + 1 + 1) (hk 4) _ rfl); isplitr; · iexact He
  isplitl [C4]; · iexact C4
  isplitl [A4]; · iexact A4
  isplitl [HS]; · iexact HS
  iintro ⟨W4, V4, Z4, HS⟩
  iapply (wp_colPh0 m K c 5 (0 + 1 + 1 + 1 + 1 + 1) (hk 5) _ rfl); isplitr; · iexact He
  isplitl [C5]; · iexact C5
  isplitl [A5]; · iexact A5
  isplitl [HS]; · iexact HS
  iintro ⟨W5, V5, Z5, HS⟩
  iapply Hk
  isplitl [W0 W1 W2 W3 W4 W5]
  · unfold wChunks
    isplitl [W0]; · iexact W0
    isplitl [W1]; · iexact W1
    isplitl [W2]; · iexact W2
    isplitl [W3]; · iexact W3
    isplitl [W4]; · iexact W4
    iexact W5
  isplitl [V0 V1 V2 V3 V4 V5]
  · unfold aChunks
    isplitl [V0]; · iexact V0
    isplitl [V1]; · iexact V1
    isplitl [V2]; · iexact V2
    isplitl [V3]; · iexact V3
    isplitl [V4]; · iexact V4
    iexact V5
  isplitl [Z0 Z1 Z2 Z3 Z4 Z5]
  · unfold colZeros
    isplitl [Z0]; · iexact Z0
    isplitl [Z1]; · iexact Z1
    isplitl [Z2]; · iexact Z2
    isplitl [Z3]; · iexact Z3
    isplitl [Z4]; · iexact Z4
    iexact Z5
  isplitl [Zb]; · iexact Zb
  iexact HS

/-- What a device takes into the body beside its windows and its debts. -/
def bodyIn : sProp 𝕄 :=
  iprop(bigSep Finset.univ (cpRes m c) ∗ (bigSep Finset.univ fun k : Fin 11 => pos0 c (kCp k)) ∗ (crd c kBar 3 ∗ pos0 c kBar)
    ∗ (bigSep Finset.univ fun b : Fin 3 => tok (tgtB b c) kBar b)
    ∗ (bigSep Finset.univ fun e : Ex => some' c (slotM e.1 e.2))
    ∗ bigSep Finset.univ (exToks c) ∗ bigSep Finset.univ (waitRes c) ∗ accs c)

/-- What it brings out. -/
def bodyOut : sProp 𝕄 :=
  iprop((wChunks m c 0 ∗ wChunks m c 1 ∗ wChunks m c 2)
    ∗ (own' c (woutM 0) (wOut m 0 c) ∗ own' c (woutM 1) (wOut m 1 c) ∗ own' c (woutM 2) (wOut m 2 c))
    ∗ (aChunks m c ∗ own' c (winA 1) (wIn m 1 c) ∗ own' c (winA 2) (wIn m 2 c))
    ∗ (own' c (woutA 0) (wOut m 0 c) ∗ own' c (woutA 1) (wOut m 1 c) ∗ own' c (woutA 2) (wOut m 2 c))
    ∗ accs c ∗ bigSep Finset.univ (doneRes m c) ∗ (bigSep Finset.univ fun k : Fin 11 => zero c (kCp k)) ∗ zero c kBar)

/-- A device's landing slots, sorted by the partner that writes into them. -/
theorem slots_split :
    (bigSep Finset.univ fun e : Ex => (some' c (slotM e.1 e.2) : sProp 𝕄))
      = iprop((bigSep (slotsOf 0) fun e => some' c (slotM e.1 e.2)) ∗ (bigSep (slotsOf 1) fun e => some' c (slotM e.1 e.2))
          ∗ (bigSep (slotsOf 2) fun e => some' c (slotM e.1 e.2))) := by
  have hU : (Finset.univ : Finset Ex) = (Finset.univ : Finset (Fin 3)).biUnion slotsOf := by
    ext e; simp [slotsOf]
  rw [hU, bigSep_biUnion_eq _ slotsOf _ fun b _ b' _ hne => Finset.disjoint_filter.mpr fun e _ h h' => hne (h.symm.trans h'), bigSep_three]

/-- The whole rectangle of the input leaves every index where it is. -/
theorem xR_emb (x : S64x1024.Idx) : xR.emb x = x := Rect.emb_unit_full (s := S64x1024) (off := ![0, 0]) inX x

/-- A whole buffer is read and overwritten. -/
theorem wp_put (oM : Memref sig .tc .vmem S64x1024 .f32) (v : FVec F S64x1024 .f32) {Q : PUnit → sProp 𝕄} :
    iprop(some' c oM ∗ (own' c oM v -∗ Q ⟨⟩))
      ⊢ WP c (Prog.op (.load oM xR.toLoadRect (View.loadsAt_vmem h_S64x1024)) fun _ =>
          .op (.store oM xR v Finset.univ (View.stores_vmem_bits_univ h_S64x1024 rfl) (.inl rfl)) .ret) Q := by
  iintro ⟨⟨%Y, H⟩, Hk⟩
  iapply (load_own c oM xR Y)
  isplitl [H]; · iexact H
  unfold own' owns
  iintro ⟨%f, %hf, H⟩
  iapply (wp_store 𝒱₀ (c : Thread nD τ) none Set.univ (m := oM) (r := xR) (Mk := Finset.univ) (S := oM.view.set) (View.set_slice_subset _ _)) $$ H
  iintro H
  iapply (WP_ret c)
  iapply Hk
  iexists _
  isplitr
  rotate_left
  · iexact H
  · ipureintro
    have h := View.read_write_univ (v := oM.access xR) (Val := Elt F) f v
    funext x
    have := congrFun h x
    rw [← this]
    show oM.view.read (Elt F) _ x = oM.view.read (Elt F) _ (xR.emb x)
    rw [xR_emb]

/-- When every exchange is ended, what is left is what they leave, and nothing is owed. -/
theorem St_end : St m c 54 54 ⊢ iprop(bigSep Finset.univ (doneRes m c) ∗ owing c 0) := by
  unfold St
  rw [bef_end, oweN_end]
  iintro ⟨-, -, -, Hd, Ho⟩
  isplitl [Hd]; · iexact Hd
  iexact Ho

/-- Asking for the own device answers with it. -/
theorem WP_dev {α : Type} (k : Dev nD → Pg F α) (Q : α → sProp 𝕄) : WP c (k c) Q ⊢ WP c (.op .deviceId k) Q := by
  unfold WP; iintro H; rw [wp_deviceId]; iexact H

/-- The body runs. -/
theorem wp_body (xM oM : Memref sig .tc .vmem S64x1024 .f32) (hx : xM.IsWhole) (ho : oM.IsWhole) {Q : PUnit → sProp 𝕄} :
    iprop(env m K ∗ bodyIn m c ∗ owing c (O₀ c) ∗ own' c xM (xstg m c) ∗ some' c oM
        ∗ ((bodyOut m c ∗ owing c 0 ∗ own' c xM (xstg m c) ∗ own' c oM (xV m 3 c)) -∗ Q ⟨⟩))
      ⊢ WP c (body xM oM) Q := by
  unfold body
  refine BIBase.Entails.trans ?_ (WP_dev c _ Q)
  unfold bodyIn
  simp only [WP_bind]
  rw [slots_split, bigSep_three, bigSep_eleven (fun k => pos0 c (kCp k))]
  iintro ⟨#He, ⟨Hcp, ⟨P0, P1, P2, P3, P4, P5, P6, P7, P8, P9, P10⟩, Hbar, ⟨T0, T1, T2⟩, ⟨S0, S1, S2⟩, Ht, Hw, Hacc⟩, Ho, Hx, Hout, Hk⟩
  iapply (wp_copies m K c); isplitr; · iexact He
  isplitl [Hcp]; · iexact Hcp
  rw [bigSep_eleven]
  iintro ⟨C0, C1, C2, C3, C4, C5, C6, C7, C8, C9, C10⟩
  unfold O₀
  iapply (wp_sgn m K c 0 ((oweN 0 c + oweB c 2) + oweB c 1)); isplitr; · iexact He
  isplitl [Ho]; · iexact Ho
  isplitl [T0]; · iexact T0
  isplitl [S0]; · iexact S0
  iintro Ho
  iapply (wp_sgn m K c 1 (oweN 0 c + oweB c 2)); isplitr; · iexact He
  isplitl [Ho]; · iexact Ho
  isplitl [T1]; · iexact T1
  isplitl [S1]; · iexact S1
  iintro Ho
  iapply (wp_sgn m K c 2 (oweN 0 c)); isplitr; · iexact He
  isplitl [Ho]; · iexact Ho
  isplitl [T2]; · iexact T2
  isplitl [S2]; · iexact S2
  iintro Ho
  iapply (load_own c xM xR (xstg m c))
  isplitl [Hx]; · iexact Hx
  iintro Hx
  rw [show (fun j => xstg m c (xR.emb j)) = xstg m c from funext fun j => congrArg _ (xR_emb j)]
  iapply (WP_ret c)
  iapply (wp_open0 m K c); isplitr; · iexact He
  isplitl [C0 C1 C2 C3 C4 C5 P0 P1 P2 P3 P4 P5]
  · unfold colFlys cpFly
    isplitl [C0 P0]; · isplitl [C0]; · iexact C0
                       iexact P0
    isplitl [C1 P1]; · isplitl [C1]; · iexact C1
                       iexact P1
    isplitl [C2 P2]; · isplitl [C2]; · iexact C2
                       iexact P2
    isplitl [C3 P3]; · isplitl [C3]; · iexact C3
                       iexact P3
    isplitl [C4 P4]; · isplitl [C4]; · iexact C4
                       iexact P4
    isplitl [C5]; · iexact C5
    iexact P5
  isplitl [Hacc]; · iexact Hacc
  isplitl [Hbar]; · iexact Hbar
  isplitl [Ht]; · iexact Ht
  isplitl [Hw]; · iexact Hw
  isplitl [Ho]; · iexact Ho
  unfold colZeros
  iintro ⟨W0, V0, ⟨Z0, Z1, Z2, Z3, Z4, Z5⟩, Zb, HS⟩
  iapply (wp_rest m K c 0 0 rfl); isplitr; · iexact He
  isplitl [C6 P6]
  · unfold cpFly; isplitl [C6]; · iexact C6
    iexact P6
  isplitl [HS]; · iexact HS
  iintro ⟨Hacc, O0, U0, Z6, HS⟩
  iapply (wp_open1 m K c 1 (by decide) (0 + 18) rfl); isplitr; · iexact He
  isplitl [C7 P7]
  · unfold cpFly; isplitl [C7]; · iexact C7
    iexact P7
  isplitl [Hacc]; · iexact Hacc
  isplitl [HS]; · iexact HS
  iintro ⟨W1, V1, Z7, HS⟩
  iapply (wp_rest m K c 1 (0 + 18) rfl); isplitr; · iexact He
  isplitl [C8 P8]
  · unfold cpFly; isplitl [C8]; · iexact C8
    iexact P8
  isplitl [HS]; · iexact HS
  iintro ⟨Hacc, O1, U1, Z8, HS⟩
  iapply (wp_open1 m K c 2 (by decide) (0 + 18 + 18) rfl); isplitr; · iexact He
  isplitl [C9 P9]
  · unfold cpFly; isplitl [C9]; · iexact C9
    iexact P9
  isplitl [Hacc]; · iexact Hacc
  isplitl [HS]; · iexact HS
  iintro ⟨W2, V2, Z9, HS⟩
  iapply (wp_rest m K c 2 (0 + 18 + 18) rfl); isplitr; · iexact He
  isplitl [C10 P10]
  · unfold cpFly; isplitl [C10]; · iexact C10
    iexact P10
  isplitl [HS]; · iexact HS
  iintro ⟨Hacc, O2, U2, Z10, HS⟩
  iapply (wp_put c oM (xV m (Fin.succ 2) c))
  isplitl [Hout]; · iexact Hout
  iintro Hout
  ihave HS := (St_end m c) $$ HS
  icases HS with ⟨Hd, Ho⟩
  iapply Hk
  isplitr [Ho Hx Hout]
  · unfold bodyOut
    isplitl [W0 W1 W2]
    · isplitl [W0]; · iexact W0
      isplitl [W1]; · iexact W1
      iexact W2
    isplitl [O0 O1 O2]
    · isplitl [O0]; · iexact O0
      isplitl [O1]; · iexact O1
      iexact O2
    isplitl [V0 V1 V2]
    · isplitl [V0]; · iexact V0
      isplitl [V1]; · iexact V1
      iexact V2
    isplitl [U0 U1 U2]
    · isplitl [U0]; · iexact U0
      isplitl [U1]; · iexact U1
      iexact U2
    isplitl [Hacc]; · iexact Hacc
    isplitl [Hd]; · iexact Hd
    isplitr [Zb]
    · rw [bigSep_eleven]
      isplitl [Z0]; · iexact Z0
      isplitl [Z1]; · iexact Z1
      isplitl [Z2]; · iexact Z2
      isplitl [Z3]; · iexact Z3
      isplitl [Z4]; · iexact Z4
      isplitl [Z5]; · iexact Z5
      isplitl [Z6]; · iexact Z6
      isplitl [Z7]; · iexact Z7
      isplitl [Z8]; · iexact Z8
      isplitl [Z9]; · iexact Z9
      iexact Z10
    iexact Zb
  isplitl [Ho]; · iexact Ho
  isplitl [Hx]; · iexact Hx
  iapply (show own' c oM (xV m (Fin.succ 2) c) ⊢ (own' c oM (xV m 3 c) : sProp 𝕄) from .rfl); iexact Hout

end Cert.Mlp

end
-- ==== Proof.Ends.lean ====
/-
# The body's two ends

The scratch buffers and the weights as the launch hands them over are what the body takes, and what the body brings
out is the scratch buffers and the weights again.
-/
module

public import proofs.«01_k».proof.Proof.Body

@[expose] public section

noncomputable section

namespace Cert.Mlp

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (c : Dev nD)

/-! ## The scratch buffers -/

/-- The scratch buffers at some contents. -/
def held : sProp 𝕄 :=
  iprop(some' c (winM 0) ∗ some' c (winM 1) ∗ some' c (winM 2) ∗ some' c (woutM 0) ∗ some' c (woutM 1) ∗ some' c (woutM 2)
    ∗ some' c (accM 0) ∗ some' c (accM 1) ∗ some' c (accM 2) ∗ some' c (accM 3) ∗ some' c (accM 4) ∗ some' c (accM 5)
    ∗ some' c (recvM 0) ∗ some' c (recvM 1) ∗ some' c (recvM 2) ∗ some' c (recvM 3) ∗ some' c (recvM 4) ∗ some' c (recvM 5))

/-- The scratch buffers as the launch hands them over are the buffers the proof names. -/
theorem held_intro : (Pipeline.scopedRest spec0 c : sProp 𝕄) ⊢ held c := by
  rw [scopedRest0_eq]
  exact BIClass.sep_mono (whole_some c (winM 0) (winMW 0)) (BIClass.sep_mono (whole_some c (winM 1) (winMW 1)) (BIClass.sep_mono (whole_some c (winM 2) (winMW 2))
    (BIClass.sep_mono (whole_some c (woutM 0) (woutMW 0)) (BIClass.sep_mono (whole_some c (woutM 1) (woutMW 1)) (BIClass.sep_mono (whole_some c (woutM 2) (woutMW 2))
    (BIClass.sep_mono (whole_some c (accM 0) (accW 0)) (BIClass.sep_mono (whole_some c (accM 1) (accW 1)) (BIClass.sep_mono (whole_some c (accM 2) (accW 2))
    (BIClass.sep_mono (whole_some c (accM 3) (accW 3)) (BIClass.sep_mono (whole_some c (accM 4) (accW 4)) (BIClass.sep_mono (whole_some c (accM 5) (accW 5))
    (BIClass.sep_mono (whole_some c (recvM 0) (recvW 0)) (BIClass.sep_mono (whole_some c (recvM 1) (recvW 1)) (BIClass.sep_mono (whole_some c (recvM 2) (recvW 2))
    (BIClass.sep_mono (whole_some c (recvM 3) (recvW 3)) (BIClass.sep_mono (whole_some c (recvM 4) (recvW 4)) (whole_some c (recvM 5) (recvW 5))))))))))))))))))

/-- And those buffers are what the launch takes back. -/
theorem held_elim : held c ⊢ (Pipeline.scopedRest spec0 c : sProp 𝕄) := by
  rw [scopedRest0_eq]
  exact BIClass.sep_mono (some_whole c (winM 0) (winMW 0)) (BIClass.sep_mono (some_whole c (winM 1) (winMW 1)) (BIClass.sep_mono (some_whole c (winM 2) (winMW 2))
    (BIClass.sep_mono (some_whole c (woutM 0) (woutMW 0)) (BIClass.sep_mono (some_whole c (woutM 1) (woutMW 1)) (BIClass.sep_mono (some_whole c (woutM 2) (woutMW 2))
    (BIClass.sep_mono (some_whole c (accM 0) (accW 0)) (BIClass.sep_mono (some_whole c (accM 1) (accW 1)) (BIClass.sep_mono (some_whole c (accM 2) (accW 2))
    (BIClass.sep_mono (some_whole c (accM 3) (accW 3)) (BIClass.sep_mono (some_whole c (accM 4) (accW 4)) (BIClass.sep_mono (some_whole c (accM 5) (accW 5))
    (BIClass.sep_mono (some_whole c (recvM 0) (recvW 0)) (BIClass.sep_mono (some_whole c (recvM 1) (recvW 1)) (BIClass.sep_mono (some_whole c (recvM 2) (recvW 2))
    (BIClass.sep_mono (some_whole c (recvM 3) (recvW 3)) (BIClass.sep_mono (some_whole c (recvM 4) (recvW 4)) (some_whole c (recvM 5) (recvW 5))))))))))))))))))

/-! ## The weights -/

/-- The weights where they are copied from. -/
def args : sProp 𝕄 :=
  iprop(own' c (winA 0) (wIn m 0 c) ∗ own' c (winA 1) (wIn m 1 c) ∗ own' c (winA 2) (wIn m 2 c)
    ∗ own' c (woutA 0) (wOut m 0 c) ∗ own' c (woutA 1) (wOut m 1 c) ∗ own' c (woutA 2) (wOut m 2 c))

/-- A whole buffer's contents, as a points-to and as ownership. -/
theorem whole_own (b : Ref sig .tc) (X : b.ty.Contents (Elt F)) :
    (((c : Thread nD τ).loc b) ↦{fullShare} X : sProp 𝕄) ⊢ own' c (Memref.whole b) X := by
  unfold own' owns; simp only [Memref.view_whole, View.read_whole, View.set_whole]
  iintro H; iexists X; isplitr; · (ipureintro; rfl)
  iexact H
/-- Owning a whole buffer at some contents is owning its location at them. -/
theorem own_whole (b : Ref sig .tc) (X : b.ty.Contents (Elt F)) :
    own' c (Memref.whole b) X ⊢ (((c : Thread nD τ).loc b) ↦{fullShare} X : sProp 𝕄) := by
  unfold own' owns; simp only [Memref.view_whole, View.read_whole, View.set_whole]
  iintro ⟨%f, %hf, H⟩
  subst hf; iexact H

/-- The arguments that are not staged are the weights where they are copied from, at their contents at launch. -/
theorem args_intro : (Pipeline.unscopedRest spec0 c (fun b => m ((c : Thread nD τ).loc b)) : sProp 𝕄) ⊢ args m c := by
  rw [unscopedRest0_eq]
  exact BIClass.sep_mono (whole_own c main_arg1 _) (BIClass.sep_mono (whole_own c main_arg2 _) (BIClass.sep_mono (whole_own c main_arg3 _)
    (BIClass.sep_mono (whole_own c main_arg4 _) (BIClass.sep_mono (whole_own c main_arg5 _) (whole_own c main_arg6 _)))))
/-- And the weights give those arguments back. -/
theorem args_elim : args m c ⊢ (Pipeline.unscopedRest spec0 c (fun b => m ((c : Thread nD τ).loc b)) : sProp 𝕄) := by
  rw [unscopedRest0_eq]
  exact BIClass.sep_mono (own_whole c main_arg1 _) (BIClass.sep_mono (own_whole c main_arg2 _) (BIClass.sep_mono (own_whole c main_arg3 _)
    (BIClass.sep_mono (own_whole c main_arg4 _) (BIClass.sep_mono (own_whole c main_arg5 _) (own_whole c main_arg6 _)))))

/-! ## Before the body -/

/-- The first layer's first weight and its buffer, cut in six column chunks, are what the six copies take. -/
theorem cols_in :
    iprop(some' c (winM 0) ∗ own' c (winA 0) (wIn m 0 c)) ⊢ (bigSep Finset.univ (colPre m c) : sProp 𝕄) :=
  BIBase.Entails.trans (BIClass.sep_mono (some_parts c (winM 0) colR (fun _ _ => rfl) col_disjoint col_cover)
    (owns_rects (Val := Elt F) (Ix := Unit) (Name := ℕ) (U := UU) (Lvl := ℕ) (c : Thread nD τ) (winA 0) fullShare colR (fun _ _ => rfl) col_disjoint col_cover (wIn m 0 c)))
    (by rw [← bigSep_sep']; exact .rfl)

/-- The chunks' landing buffers, cut in slots. -/
theorem slots_in :
    (bigSep Finset.univ fun p : Fin 6 => some' c (recvM p) : sProp 𝕄) ⊢ bigSep Finset.univ fun e : Ex => some' c (slotM e.1 e.2) :=
  BIBase.Entails.trans (bigSep_mono fun p _ => recv_slots c p) (by rw [bigSep_univ_prod])
/-- The slots, joined to the chunks' landing buffers. -/
theorem slots_out :
    (bigSep Finset.univ fun e : Ex => some' c (slotM e.1 e.2) : sProp 𝕄) ⊢ bigSep Finset.univ fun p : Fin 6 => some' c (recvM p) :=
  BIBase.Entails.trans (by rw [bigSep_univ_prod]) (bigSep_mono fun p _ => slots_recv c p)

/-- The scratch buffers and the weights are what the copies take, the landing slots and the chunks' buffers. -/
theorem ends_in :
    iprop(held c ∗ args m c) ⊢ (iprop(bigSep Finset.univ (cpPre m c) ∗ (bigSep Finset.univ fun e : Ex => some' c (slotM e.1 e.2)) ∗ accs c) : sProp 𝕄) := by
  unfold held args
  rw [bigSep_eleven]
  iintro ⟨⟨W0, W1, W2, O0, O1, O2, A0, A1, A2, A3, A4, A5, R0, R1, R2, R3, R4, R5⟩, V0, V1, V2, U0, U1, U2⟩
  ihave HC := (cols_in m c) $$ [W0 V0]
  · isplitl [W0]; · iexact W0
    iexact V0
  ihave HC := (Entails.of_eq (bigSep_six (colPre m c))) $$ HC
  icases HC with ⟨C0, C1, C2, C3, C4, C5⟩
  isplitl [C0 C1 C2 C3 C4 C5 W1 V1 W2 V2 O0 O1 O2 U0 U1 U2]
  · unfold cpPre woutPre winPre
    isplitl [C0]; · iexact C0
    isplitl [C1]; · iexact C1
    isplitl [C2]; · iexact C2
    isplitl [C3]; · iexact C3
    isplitl [C4]; · iexact C4
    isplitl [C5]; · iexact C5
    isplitl [O0 U0]
    · isplitl [O0]; · iexact O0
      iexact U0
    isplitl [W1 V1]
    · isplitl [W1]; · iexact W1
      iexact V1
    isplitl [O1 U1]
    · isplitl [O1]; · iexact O1
      iexact U1
    isplitl [W2 V2]
    · isplitl [W2]; · iexact W2
      iexact V2
    isplitl [O2]; · iexact O2
    iexact U2
  isplitl [R0 R1 R2 R3 R4 R5]
  · iapply (slots_in c)
    rw [bigSep_six (fun p => some' c (recvM p))]
    isplitl [R0]; · iexact R0
    isplitl [R1]; · iexact R1
    isplitl [R2]; · iexact R2
    isplitl [R3]; · iexact R3
    isplitl [R4]; · iexact R4
    iexact R5
  unfold accs
  isplitl [A0]; · iexact A0
  isplitl [A1]; · iexact A1
  isplitl [A2]; · iexact A2
  isplitl [A3]; · iexact A3
  isplitl [A4]; · iexact A4
  iexact A5

/-! ## After the body -/

/-- The six chunks of a first weight in fast memory are its whole buffer. -/
theorem chunks_win (l : Fin 3) : wChunks m c l ⊢ some' c (winM l) := by
  refine BIBase.Entails.trans ?_ (parts_some c (winM l) colR (fun _ _ => rfl) col_disjoint col_cover)
  refine BIBase.Entails.trans ?_ (bigSep_mono (Φ := fun p => wChunk m c l p) fun p _ => own_some c ((winM l).slice (colR p) (fun _ => rfl)) (colOf p (wIn m l c)))
  unfold wChunks
  rw [← bigSep_six (fun p => wChunk m c l p)]

/-- The six chunks where the first layer's first weight is copied from are the whole argument. -/
theorem chunks_arg : aChunks m c ⊢ own' c (winA 0) (wIn m 0 c) := by
  have : ∀ e, Nonempty (Elt F e) := fun e => inferInstance
  refine BIBase.Entails.trans ?_ (owns_of_rects (Val := Elt F) (Ix := Unit) (Name := ℕ) (U := UU) (Lvl := ℕ) (c : Thread nD τ) (winA 0) fullShare colR (fun _ _ => rfl) col_disjoint col_cover (wIn m 0 c))
  unfold aChunks
  rw [← bigSep_six (fun p => aChunk m c p)]
  exact .rfl

/-- The counters of the own semaphores at zero. -/
def zeros : sProp 𝕄 :=
  iprop((bigSep Finset.univ fun k : Fin 11 => zero c (kCp k)) ∗ (bigSep Finset.univ fun e : Ex => zero c (kSnd e)) ∗ (bigSep Finset.univ fun e : Ex => zero c (kRcv e)))

/-- What the ended exchanges leave: every slot, and every sending and receiving semaphore at zero. -/
theorem done_split :
    (bigSep Finset.univ (doneRes m c) : sProp 𝕄)
      ⊢ iprop((bigSep Finset.univ fun e : Ex => some' c (slotM e.1 e.2)) ∗ (bigSep Finset.univ fun e : Ex => zero c (kSnd e)) ∗ (bigSep Finset.univ fun e : Ex => zero c (kRcv e))) := by
  unfold doneRes
  rw [bigSep_sep', bigSep_sep']
  exact BIClass.sep_mono (bigSep_mono (Φ := rcvPay m c) fun e _ => own_some c _ _) .rfl

/-- What the body brings out is the scratch buffers, the weights and the counters at zero. -/
theorem ends_out : bodyOut m c ⊢ (iprop(held c ∗ args m c ∗ zeros c ∗ zero c kBar) : sProp 𝕄) := by
  unfold bodyOut
  iintro ⟨⟨W0, W1, W2⟩, ⟨O0, O1, O2⟩, ⟨V0, V1, V2⟩, ⟨U0, U1, U2⟩, HA, Hd, Hz, Hb⟩
  ihave Hd := (done_split m c) $$ Hd
  icases Hd with ⟨Hs, Zs, Zr⟩
  ihave Hs := (slots_out c) $$ Hs
  ihave Hs := (Entails.of_eq (bigSep_six (fun p => some' c (recvM p)))) $$ Hs
  icases Hs with ⟨R0, R1, R2, R3, R4, R5⟩
  unfold held args zeros accs
  icases HA with ⟨A0, A1, A2, A3, A4, A5⟩
  isplitl [W0 W1 W2 O0 O1 O2 A0 A1 A2 A3 A4 A5 R0 R1 R2 R3 R4 R5]
  · isplitl [W0]; · iapply (chunks_win m c 0); iexact W0
    isplitl [W1]; · iapply (chunks_win m c 1); iexact W1
    isplitl [W2]; · iapply (chunks_win m c 2); iexact W2
    isplitl [O0]; · iapply (own_some c (woutM 0) _); iexact O0
    isplitl [O1]; · iapply (own_some c (woutM 1) _); iexact O1
    isplitl [O2]; · iapply (own_some c (woutM 2) _); iexact O2
    isplitl [A0]; · iexact A0
    isplitl [A1]; · iexact A1
    isplitl [A2]; · iexact A2
    isplitl [A3]; · iexact A3
    isplitl [A4]; · iexact A4
    isplitl [A5]; · iexact A5
    isplitl [R0]; · iexact R0
    isplitl [R1]; · iexact R1
    isplitl [R2]; · iexact R2
    isplitl [R3]; · iexact R3
    isplitl [R4]; · iexact R4
    iexact R5
  isplitl [V0 V1 V2 U0 U1 U2]
  · isplitl [V0]; · iapply (chunks_arg m c); iexact V0
    isplitl [V1]; · iexact V1
    isplitl [V2]; · iexact V2
    isplitl [U0]; · iexact U0
    isplitl [U1]; · iexact U1
    iexact U2
  isplitl [Hz Zs Zr]
  · isplitl [Hz]; · iexact Hz
    isplitl [Zs]; · iexact Zs
    iexact Zr
  iexact Hb

end Cert.Mlp

end
-- ==== Proof.Launch.lean ====
/-
# The launch

The body obligation, what the launch deals every device, and the run.
-/
module

public import proofs.«01_k».proof.Proof.Ends
public import Idealize.ShloMosaic.Lib.Pipeline.FrameBody

@[expose] public section

noncomputable section

namespace Cert.Mlp

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The proof data -/

/-- The tokens of the duties a device pays. -/
def payToks (c : Dev nD) : sProp 𝕄 :=
  iprop((bigSep Finset.univ fun b : Fin 3 => tok (tgtB b c) kBar b) ∗ (bigSep Finset.univ fun k : Fin 11 => tok c (kCp k) 0) ∗ bigSep Finset.univ (exToks c))

/-- A device's positions and the tokens of the duties it pays. -/
def linear (c : Dev nD) : sProp 𝕄 := iprop((bigSep Finset.univ fun k : Kd => pos0 c k) ∗ payToks c)

/-- The credit a device starts with. -/
def credits (c : Dev nD) : sProp 𝕄 := iprop(crd c kBar 3 ∗ bigSep Finset.univ fun e : Ex => crd c (kRcv e) (nA e.1))

/-- What a device starts from. -/
def start (c : Dev nD) : sProp 𝕄 := iprop((∃ K, env m K ∗ linear c) ∗ credits c ∗ args m c)

/-- Before and after the one point. -/
def Φ₀ (c : Dev nD) : sProp 𝕄 := iprop(start m c ∗ held c)
def Φ₁ (c : Dev nD) : sProp 𝕄 := iprop(held c ∗ args m c ∗ zeros c ∗ zero c kBar)

def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => xV m 3 c
  Φ t := match t with
    | ⟨0, _⟩ => Φ₀ m c
    | ⟨_ + 1, _⟩ => Φ₁ m c
  q _ := fullShare
  owed t := match t with
    | ⟨0, _⟩ => O₀ c
    | ⟨_ + 1, _⟩ => 0

/-! ## The body obligation -/

/-- A device's positions one semaphore after the other. -/
theorem pos_split (c : Dev nD) :
    (bigSep Finset.univ fun k : Kd => pos0 c k)
      ⊢ (iprop(pos0 c kBar ∗ (bigSep Finset.univ fun k : Fin 11 => pos0 c (kCp k)) ∗ (bigSep Finset.univ fun e : Ex => pos0 c (kSnd e))
          ∗ bigSep Finset.univ fun e : Ex => pos0 c (kRcv e)) : sProp 𝕄) := by
  rw [bigSep_univ_sum, bigSep_univ_sum (fun o : Ok => pos0 c (.inr o)), bigSep_univ_sum (fun o : Ex ⊕ Ex => pos0 c (.inr (.inr o)))]
  rw [show (Finset.univ : Finset Unit) = {()} from rfl, bigSep_singleton]
  exact .rfl

/-- What a device starts from is what its body takes. -/
theorem start_body (K : Dev nD × Kd → ℕ) (c : Dev nD) :
    iprop(linear c ∗ credits c ∗ args m c ∗ held c) ⊢ (bodyIn m c : sProp 𝕄) := by
  unfold linear credits bodyIn payToks cpRes
  iintro ⟨⟨Hp, Hb, Hc, He⟩, ⟨Hcb, Hcr⟩, Ha, Hh⟩
  ihave Hp := (pos_split c) $$ Hp
  icases Hp with ⟨Pb, Pc, Ps, Pr⟩
  ihave Hin := (ends_in m c) $$ [Ha Hh]
  · isplitl [Hh]; · iexact Hh
    iexact Ha
  icases Hin with ⟨Hpre, Hsl, Hacc⟩
  isplitl [Hpre Hc]
  · rw [bigSep_sep']
    isplitl [Hpre]; · iexact Hpre
    iexact Hc
  isplitl [Pc]; · iexact Pc
  isplitl [Hcb Pb]
  · isplitl [Hcb]; · iexact Hcb
    iexact Pb
  isplitl [Hb]; · iexact Hb
  isplitl [Hsl]; · iexact Hsl
  isplitl [He]; · iexact He
  isplitl [Ps Pr Hcr]
  · unfold waitRes
    rw [bigSep_sep', bigSep_sep']
    isplitl [Ps]; · iexact Ps
    isplitl [Pr]; · iexact Pr
    iexact Hcr
  iexact Hacc

/-- The input is fetched at the one point of the grid. -/
theorem fetch_0 (t : Fin cfg0.N) : (cfg0.win (0 : Fin 2)).fetch t = true := by rw [fin_N0 t]; rfl

abbrev stg (c : Dev nD) (b : Ref sig .tc) (X : b.ty.Contents (Elt F)) : sProp 𝕄 := own' c (Memref.whole b) X

def bodyPre (c : Dev nD) : sProp 𝕄 :=
  iprop(Φ₀ m c ∗ (dats m 0 c).owesAt () t0_0.castSucc
    ∗ (∃ d, stg c cc0_stg0_0 ((dats m 0 c).before (0 : Fin 2) t0_0 d))
    ∗ (∃ d, stg c cc0_stg1_0 ((dats m 0 c).before (1 : Fin 2) t0_0 d)))

def bodyPost (c : Dev nD) : sProp 𝕄 :=
  iprop(Φ₁ m c ∗ (dats m 0 c).owesAt () t0_0.succ ∗ stg c cc0_stg0_0 (xstg m c) ∗ stg c cc0_stg1_0 (xV m 3 c))

/-- So before the body the staging buffer holds the device's input. -/
theorem before_x (c : Dev nD) (d) : (dats m 0 c).before (0 : Fin 2) t0_0 d = xstg m c := by
  unfold Dat.before; rw [if_pos (fetch_0 t0_0)]; rfl

/-- What a device owes at a point of the launch, in the protocol's words, -/
theorem owesAt_owing (c : Dev nD) (t : Fin (cfg0.N + 1)) (O : CellTallies nD τ sig Unit) (h : (dats (F := F) m 0 c).owed t = O) :
    ((dats m 0 c).owesAt () t : sProp 𝕄) ⊢ owing c O := by
  unfold Dat.owesAt Pipeline.owesWithin owing
  rw [h]
  iintro ⟨%W, -, H⟩
  iexists W; iexact H
/-- and the other way round. -/
theorem owing_owesAt (c : Dev nD) (t : Fin (cfg0.N + 1)) (O : CellTallies nD τ sig Unit) (h : (dats (F := F) m 0 c).owed t = O) :
    owing c O ⊢ ((dats m 0 c).owesAt () t : sProp 𝕄) := by
  unfold Dat.owesAt Pipeline.owesWithin owing
  rw [h]
  iintro ⟨%W, H⟩
  iexists W; isplitr; · (ipureintro; exact fun _ _ => Or.inl trivial)
  iexact H

/-- From what a device takes in, the body runs to what it brings out. -/
theorem sound_body (c : Dev nD) :
    bodyPre m c ⊢ WP c (body (Memref.whole cc0_stg0_0) (Memref.whole cc0_stg1_0)) (fun _ => bodyPost m c) := by
  unfold bodyPre Φ₀ start
  iintro ⟨⟨⟨⟨%K, #He, Hl⟩, Hc, Ha⟩, Hh⟩, Ho, ⟨%d0, Hx⟩, ⟨%d1, Hout⟩⟩
  rw [before_x]
  ihave Hin := (start_body m K c) $$ [Hl Hc Ha Hh]
  · isplitl [Hl]; · iexact Hl
    isplitl [Hc]; · iexact Hc
    isplitl [Ha]; · iexact Ha
    iexact Hh
  ihave Ho := (owesAt_owing m c _ (O₀ c) rfl) $$ Ho
  iapply (wp_body m K c (Memref.whole cc0_stg0_0) (Memref.whole cc0_stg1_0) (Memref.isWhole_whole _) (Memref.isWhole_whole _))
  isplitr; · iexact He
  isplitl [Hin]; · iexact Hin
  isplitl [Ho]; · iexact Ho
  isplitl [Hx]; · iexact Hx
  isplitl [Hout]; · iexists _; iexact Hout
  iintro ⟨Hb, Ho, Hx, Hout⟩
  ihave Hb := (ends_out m c) $$ Hb
  ihave Ho := (owing_owesAt m c t0_0.succ 0 rfl) $$ Ho
  unfold bodyPost Φ₁
  isplitl [Hb]; · iexact Hb
  isplitl [Ho]; · iexact Ho
  isplitl [Hx]; · iexact Hx
  iexact Hout

/-- The program the point runs. -/
theorem row_eq :
    defs₀ (F := F) .tc cfg0.body (cfg0.bodyArgs t0_0 (cfg0.slots t0_0)) = body (Memref.whole cc0_stg0_0) (Memref.whole cc0_stg1_0) :=
  Eq.trans (by unfold defs₀; rw [Defs.onTc_tc]) (Eq.trans (body_eq t0_0)
    (congrArg₂ body (show win0_0.stage (cfg0.slots t0_0 0) = Memref.whole cc0_stg0_0 from rfl) (show win0_1.stage (cfg0.slots t0_0 1) = Memref.whole cc0_stg1_0 from rfl)))

/-- The body obligation. -/
theorem body_obligation (c : Dev nD) : BodyObligation (dats (F := F) m 0 c) (defs₀ (F := F)) 𝒱₀ () Set.univ := fun t => by
  obtain rfl : t = t0_0 := fin_N0 t
  rw [bigSep_W0, bigSep_W0]
  rw [row_eq]
  exact triple_restated (sound_body m c) rfl .rfl fun _ => .rfl

end Cert.Mlp

end
-- ==== Proof.Run.lean ====
/-
# The run

What the launch deals every device, and that every run ends with the result, the arguments and the semaphores' counters
as claimed.
-/
module

public import proofs.«01_k».proof.Proof.Launch
public import Idealize.ShloMosaic.Lib.Pipeline.CollectiveSegs
public import Idealize.ShloMosaic.Lib.Quiescent

@[expose] public section

noncomputable section

namespace Cert.Mlp

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The semaphores and their tokens -/

/-- The copies' and the exchanges' semaphores are the kernel's own. -/
theorem osem_scoped (o : Ok) : (osem o).isScoped .tc = true := by
  rcases o with k | ⟨p, i⟩ | ⟨p, i⟩
  · fin_cases k <;> rfl
  · fin_cases p <;> fin_cases i <;> rfl
  · fin_cases p <;> fin_cases i <;> rfl

/-- The staging semaphores are none of them. -/
theorem stage_dec (w : Fin cfg0.W) (s) : dec (.dma ((cfg0.spec w).sem s)) = none := by
  revert s; fin_cases w <;> decide

/-- So they are a family of own semaphores, apart from the staging ones. -/
theorem ownSemFacts : Pipeline.OwnSemFacts cfg0.spec osem where
  isScoped := osem_scoped
  inj := fun a b h => Sum.inr.inj (csem_injective (a₁ := .inr a) (a₂ := .inr b) h)
  disj := fun o w s h => by
    have h1 := dec_csem (.inr o)
    rw [show csem (.inr o) = osem o from rfl, h, stage_dec w s] at h1
    exact absurd h1 (by simp)

/-- The windows' arrays are held whole. -/
theorem share_eq (c : Dev nD) (w : Fin cfg0.W) : (dats (F := F) m 0 c).share w = fullShare := by unfold Dat.share; split <;> rfl

abbrev kcell (ck : Dev nD × Kd) : GSem nD τ sig := cell ck.1 ck.2
/-- No two of the devices' semaphores are one. -/
theorem kcell_injective : Function.Injective kcell := fun a b h => Prod.ext (cell_inj.mp h).1 (cell_inj.mp h).2
def mlpCells : Finset (GSem nD τ sig) := Finset.univ.map ⟨kcell, kcell_injective⟩

/-- The tokens of a device's own semaphores: its barrier's three, and one for every other. -/
def tokOf : Dev nD × (Fin 3 ⊕ Ok) → GSem nD τ sig × ℕ × Fin 3
  | (c, .inl b) => (cell c kBar, 0, b)
  | (c, .inr o) => (cell c (.inr o), 0, 0)
/-- No two of the tokens are one. -/
theorem tokOf_injective : Function.Injective tokOf := by
  rintro ⟨c, b | o⟩ ⟨c', b' | o'⟩ h
  · have h1 := cell_inj.mp (congrArg Prod.fst h)
    have h2 : b = b' := congrArg (fun x : GSem nD τ sig × ℕ × Fin 3 => x.2.2) h
    rw [h1.1, h2]
  · exact absurd (cell_inj.mp (congrArg Prod.fst h)).2 (by simp)
  · exact absurd (cell_inj.mp (congrArg Prod.fst h)).2 (by simp)
  · have h1 := cell_inj.mp (congrArg Prod.fst h)
    rw [h1.1, Sum.inr.inj h1.2]
def mlpToks : Finset (GSem nD τ sig × ℕ × Fin 3) := Finset.univ.map ⟨tokOf, tokOf_injective⟩

def u₀ : UU :=
  (initOf (Pipeline.cells cfgs cellOf_inj) (Pipeline.launchToks cfgs cellOf_inj), initOf mlpCells mlpToks)

/-- The tokens of device `c`'s own semaphores. -/
def toks (c : Dev nD) : sProp 𝕄 := iprop((bigSep Finset.univ fun b : Fin 3 => tok c kBar b) ∗ bigSep Finset.univ fun o : Ok => tok c (.inr o) 0)

/-- What the launch deals device `c`, -/
def G (c : Dev nD) : sProp 𝕄 :=
  iprop((bigSep Finset.univ fun k : Kd => roundState ER (mlpRd m) (cell c k) 0)
    ∗ (bigSep Finset.univ fun k : Kd => iprop(pos0 c k ∗ reached ER (cell c k) 0)) ∗ toks c)

/-- the records every device may use, -/
def records (K : Dev nD × Kd → ℕ) : sProp 𝕄 :=
  iprop((bigSep Finset.univ fun ck : Dev nD × Kd => cellInv ER (mlpRd m) (K ck) (cell ck.1 ck.2))
    ∗ bigSep Finset.univ fun ck : Dev nD × Kd => reached ER (cell ck.1 ck.2) 0)
instance records_persistent (K : Dev nD × Kd → ℕ) : BI.Persistent (records m K) := by unfold records; infer_instance

/-- and what the launch's one update makes of it all. -/
def G' (c : Dev nD) : sProp 𝕄 := iprop(∃ K, records m K ∗ linear c)

/-- The protocol's ghost state at launch is what each device is dealt. -/
theorem fund_mlp : BI.own (ER (initOf mlpCells mlpToks)) ⊢ (|==> bigSep Finset.univ (G m) : sProp 𝕄) := by
  have hX (Φ : GSem nD τ sig → sProp 𝕄) : bigSep mlpCells Φ = bigSep Finset.univ fun c : Dev nD => bigSep Finset.univ fun k : Kd => Φ (cell c k) := by
    unfold mlpCells; rw [bigSep_map, bigSep_univ_prod]; rfl
  have hT : bigSep mlpToks (fun x => (dutyTok ER x.1 x.2.1 x.2.2 : sProp 𝕄)) = bigSep Finset.univ fun c : Dev nD => toks c := by
    unfold mlpToks; rw [bigSep_map, bigSep_univ_prod]
    exact bigSep_congr fun c _ => by unfold toks; rw [bigSep_univ_sum]; rfl
  iintro HX
  imod (Rounds.fund ER (mlpRd m) mlpCells mlpToks) $$ HX with ⟨Hst, Hr, Hat, Htok⟩
  imodintro
  ihave Hst := (Entails.of_eq (hX fun g => roundState ER (mlpRd m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat]; · iexact Hat
    iexact Hr
  iexact Htok

/-! ## The one update at launch -/

/-- The one semaphore that outlives the kernel is the barrier. -/
theorem unscopedSems0_eq (c : Dev nD) : (unscopedSems0 c : sProp 𝕄) = zero c kBar := by
  unfold unscopedSems0; rw [bigSep_eq_bigSepL_of_eq [SemLoc.reg barS] (by decide) (by decide)]; rfl

/-- The own semaphores at zero, one by one. -/
theorem ownSems0_eq (c : Dev nD) :
    (Pipeline.ownSems0 (Ix := Unit) (Name := ℕ) (U := UU) (Lvl := ℕ) (Val := Elt F) (τ := τ) osem c : sProp 𝕄)
      = bigSep Finset.univ fun o : Ok => zero c (.inr o) := rfl

/-- The counters brought out at zero are the own semaphores'. -/
theorem zeros_own (c : Dev nD) :
    zeros c ⊢ (Pipeline.ownSems0 (Ix := Unit) (Name := ℕ) (U := UU) (Lvl := ℕ) (Val := Elt F) (τ := τ) osem c : sProp 𝕄) := by
  rw [ownSems0_eq, bigSep_univ_sum (fun o : Ok => zero c (.inr o)), bigSep_univ_sum (fun o : Ex ⊕ Ex => zero c (.inr (.inr o)))]
  exact .rfl

/-- Own semaphores and barrier at zero are all of the kernel's semaphores at zero. -/
theorem sems0_all (c : Dev nD) :
    iprop(Pipeline.ownSems0 (Ix := Unit) (Name := ℕ) (U := UU) (Lvl := ℕ) (Val := Elt F) (τ := τ) osem c ∗ unscopedSems0 c)
      ⊢ (bigSep Finset.univ fun k : Kd => zero c k : sProp 𝕄) := by
  rw [unscopedSems0_eq, ownSems0_eq, bigSep_univ_sum (fun k : Kd => zero c k), show (Finset.univ : Finset Unit) = {()} from rfl, bigSep_singleton]
  show _ ⊢ iprop(zero c kBar ∗ bigSep Finset.univ fun o : Ok => zero c (.inr o))
  iintro ⟨Ho, Hb⟩
  isplitl [Hb]; · iexact Hb
  iexact Ho

/-- From a device's counters at zero and its deal, the invariants of its semaphores, and their positions and tokens. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (mlpRd m) κ (cell c k)))
          ∗ (bigSep Finset.univ fun k => iprop(pos0 c k ∗ reached ER (cell c k) 0)) ∗ toks c) := by
  unfold G
  iintro ⟨Hos, Hus, Hst, Hat, Htok⟩
  ihave Hv := (sems0_all (F := F) c) $$ [Hos Hus]
  · isplitl [Hos]; · iexact Hos
    iexact Hus
  imod (show iprop((bigSep Finset.univ fun k : Kd => zero c k) ∗ bigSep Finset.univ fun k : Kd => roundState ER (mlpRd m) (cell c k) 0)
      ⊢ (|={Set.univ}=> bigSep Finset.univ fun k => iprop(∃ κ : ℕ, cellInv ER (mlpRd m) κ (cell c k)) : sProp 𝕄) from by
        rw [← bigSep_sep']
        exact (bigSep_mono fun k _ => (Rounds.body_intro ER (mlpRd m) (cell c k)).trans inv_alloc).trans (bigSep_fupd _ _)) $$ [Hv Hst] with Hinv
  · isplitl [Hv]; · iexact Hv
    iexact Hst
  imodintro
  isplitl [Hinv]; · iexact Hinv
  isplitl [Hat]; · iexact Hat
  iexact Htok

/-- The partners of a step pair the devices up. -/
def pairB (b : Fin 3) : Dev nD ≃ Dev nD := ⟨tgtB b, tgtB b, tgtB_tgtB b, tgtB_tgtB b⟩
def pairE (e : Ex) : Dev nD ≃ Dev nD := ⟨pt e, pt e, pt_pt e, pt_pt e⟩

/-- The barriers' tokens, handed round: each device gets those of its partners' barriers. -/
theorem bar_around : (bigSep Finset.univ fun c : Dev nD => bigSep Finset.univ fun b : Fin 3 => (tok c kBar b : sProp 𝕄))
    = bigSep Finset.univ fun c : Dev nD => bigSep Finset.univ fun b : Fin 3 => tok (tgtB b c) kBar b := by
  rw [bigSep_univ_comm, bigSep_univ_comm (fun (c : Dev nD) (b : Fin 3) => (tok (tgtB b c) kBar b : sProp 𝕄))]
  exact bigSep_congr fun b _ => bigSep_univ_equiv (pairB b) fun c : Dev nD => (tok c kBar b : sProp 𝕄)
/-- The receiving semaphores' tokens, handed round: each device gets its partners'. -/
theorem rcv_around : (bigSep Finset.univ fun c : Dev nD => bigSep Finset.univ fun e : Ex => (tok c (kRcv e) 0 : sProp 𝕄))
    = bigSep Finset.univ fun c : Dev nD => bigSep Finset.univ fun e : Ex => tok (pt e c) (kRcv e) 0 := by
  rw [bigSep_univ_comm, bigSep_univ_comm (fun (c : Dev nD) (e : Ex) => (tok (pt e c) (kRcv e) 0 : sProp 𝕄))]
  exact bigSep_congr fun e _ => bigSep_univ_equiv (pairE e) fun c : Dev nD => (tok c (kRcv e) 0 : sProp 𝕄)

/-- Every token goes to the device that pays its duty. -/
theorem toks_around : (bigSep Finset.univ fun c : Dev nD => (toks c : sProp 𝕄)) ⊢ bigSep Finset.univ fun c : Dev nD => payToks c := by
  have h1 (c : Dev nD) : (toks c : sProp 𝕄) = iprop((bigSep Finset.univ fun b : Fin 3 => tok c kBar b)
      ∗ (bigSep Finset.univ fun k : Fin 11 => tok c (kCp k) 0) ∗ (bigSep Finset.univ fun e : Ex => tok c (kSnd e) 0) ∗ bigSep Finset.univ fun e : Ex => tok c (kRcv e) 0) := by
    unfold toks
    rw [bigSep_univ_sum (fun o : Ok => tok c (.inr o) 0), bigSep_univ_sum (fun o : Ex ⊕ Ex => tok c (.inr (.inr o)) 0)]
    rfl
  have h2 (c : Dev nD) : (payToks c : sProp 𝕄) = iprop((bigSep Finset.univ fun b : Fin 3 => tok (tgtB b c) kBar b)
      ∗ (bigSep Finset.univ fun k : Fin 11 => tok c (kCp k) 0) ∗ (bigSep Finset.univ fun e : Ex => tok c (kSnd e) 0) ∗ bigSep Finset.univ fun e : Ex => tok (pt e c) (kRcv e) 0) := by
    unfold payToks exToks
    rw [bigSep_sep']
  rw [bigSep_congr (s := Finset.univ) fun c _ => h1 c, bigSep_congr (s := Finset.univ) fun c _ => h2 c]
  rw [bigSep_sep', bigSep_sep', bigSep_sep', bigSep_sep', bigSep_sep', bigSep_sep', bar_around, rcv_around]

/-- So what the devices have together is what each of them starts from. -/
theorem regroup :
    (bigSep Finset.univ fun c : Dev nD => iprop((bigSep Finset.univ fun k => iprop(∃ κ : ℕ, cellInv ER (mlpRd m) κ (cell c k)))
          ∗ (bigSep Finset.univ fun k => iprop(pos0 c k ∗ reached ER (cell c k) 0)) ∗ toks c) : sProp 𝕄)
      ⊢ bigSep Finset.univ (G' m) := by
  rw [bigSep_sep', bigSep_sep', ← bigSep_univ_prod (fun ck : Dev nD × Kd => iprop(∃ κ : ℕ, cellInv ER (mlpRd m) κ (cell ck.1 ck.2))),
    bigSep_congr (s := Finset.univ) (fun (c : Dev nD) _ => bigSep_sep' Finset.univ (fun k : Kd => (pos0 c k : sProp 𝕄)) (fun k => reached ER (cell c k) 0)),
    bigSep_sep', ← bigSep_univ_prod (fun ck : Dev nD × Kd => (reached ER (cell ck.1 ck.2) 0 : sProp 𝕄))]
  iintro ⟨HI, ⟨Hat, #HR⟩, Htok⟩
  ihave HK := (BI.bigSep_exists_pi Finset.univ (fun (ck : Dev nD × Kd) (κ : ℕ) => (cellInv ER (mlpRd m) κ (cell ck.1 ck.2) : sProp 𝕄))) $$ HI
  icases HK with ⟨%K, #HI⟩
  ihave Htk := (toks_around (F := F)) $$ Htok
  iapply (BI.bigSep_with_persistent (R := records m K) (Φ := fun c => linear c) (Ψ := G' m) fun c _ => show iprop(records m K ∗ linear c) ⊢ G' m c from by
    unfold G'; iintro H; iexists K; iexact H)
  isplitr
  · unfold records; isplitl; · iexact HI
    iexact HR
  · unfold linear
    rw [bigSep_sep']
    isplitl [Hat]; · iexact Hat
    iexact Htk

/-- The update at launch. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credit -/

/-- What a device's signal owes a semaphore of the kernel's. -/
theorem oweB_cell (d c : Dev nD) (b : Fin 3) (k : Kd) :
    oweB d b (cell c k) () = if d = tgtB b c ∧ k = kBar then 1 else 0 := by
  unfold oweB; rw [tallyAt_apply]
  refine if_congr ?_ rfl rfl
  rw [cell_inj]
  constructor
  · rintro ⟨⟨h1, h2⟩, -⟩; exact ⟨by rw [h1, tgtB_tgtB], h2⟩
  · rintro ⟨h1, h2⟩; exact ⟨⟨by rw [h1, tgtB_tgtB], h2⟩, rfl⟩

/-- What a device's exchange owes it. -/
theorem oweE_cell (d c : Dev nD) (e : Ex) (k : Kd) :
    oweE d e (cell c k) () = if d = pt e c ∧ k = kRcv e then nA e.1 else 0 := by
  unfold oweE; rw [tallyAt_apply]
  refine if_congr ?_ rfl rfl
  rw [cell_inj]
  constructor
  · rintro ⟨⟨h1, h2⟩, -⟩; exact ⟨by rw [h1, pt_pt], h2⟩
  · rintro ⟨h1, h2⟩; exact ⟨⟨by rw [h1, pt_pt], h2⟩, rfl⟩

/-- What a device owes it at launch. -/
theorem O₀_cell (d c : Dev nD) (k : Kd) :
    O₀ d (cell c k) () = (∑ e : Ex, if d = pt e c ∧ k = kRcv e then nA e.1 else 0) + ∑ b : Fin 3, if d = tgtB b c ∧ k = kBar then 1 else 0 := by
  unfold O₀
  rw [Pi.add_apply, Finsupp.add_apply, Pi.add_apply, Finsupp.add_apply, Pi.add_apply, Finsupp.add_apply, oweN_apply, frm_zero,
    Finset.sum_congr rfl fun e _ => oweE_cell d c e k, Fin.sum_univ_three, oweB_cell, oweB_cell, oweB_cell]
  omega

/-- What the devices together owe a semaphore. -/
def owed : Kd → ℕ
  | .inl _ => 3
  | .inr (.inl _) => 0
  | .inr (.inr (.inl _)) => 0
  | .inr (.inr (.inr e)) => nA e.1

/-- What all the devices owe it together. -/
theorem owed_sum (c : Dev nD) (k : Kd) : ∑ d : Dev nD, O₀ d (cell c k) () = owed k := by
  rw [Finset.sum_congr rfl fun d _ => O₀_cell d c k, Finset.sum_add_distrib, Finset.sum_comm, Finset.sum_comm (s := (Finset.univ : Finset (Dev nD)))]
  have hE : ∀ e : Ex, (∑ d : Dev nD, if d = pt e c ∧ k = kRcv e then nA e.1 else 0) = if k = kRcv e then nA e.1 else 0 := fun e => by
    by_cases h : k = kRcv e
    · simp [h]
    · simp [h]
  have hB : ∀ b : Fin 3, (∑ d : Dev nD, if d = tgtB b c ∧ k = kBar then 1 else 0) = if k = kBar then 1 else 0 := fun b => by
    by_cases h : k = kBar
    · simp [h]
    · simp [h]
  rw [Finset.sum_congr rfl fun e _ => hE e, Finset.sum_congr rfl fun b _ => hB b, Fin.sum_univ_three]
  rcases k with _ | k | e | e
  · rw [Finset.sum_eq_zero fun e _ => if_neg (by simp)]; rfl
  · rw [Finset.sum_eq_zero fun e _ => if_neg (by simp), if_neg (by simp)]; rfl
  · rw [Finset.sum_eq_zero fun e _ => if_neg (by simp), if_neg (by simp)]; rfl
  · rw [if_neg (by simp)]
    rw [Finset.sum_eq_single e (fun e' _ hne => if_neg fun h => hne (Sum.inr.inj (Sum.inr.inj (Sum.inr.inj h))).symm) (fun h => absurd (Finset.mem_univ e) h), if_pos rfl]
    rfl

/-- The credit that the launch gives for it is that. -/
theorem launch_cell (c : Dev nD) (k : Kd) :
    tallyOn (cell c k) (launchCredit (Pipeline.owing O₀) 0 (cell c k)) = (tallyAt (cell c k) () (owed k) : CellTallies nD τ sig Unit) := by
  unfold tallyAt; refine congrArg _ (Finsupp.ext fun u => ?_); cases u
  rw [Pipeline.launchCredit_owing, Finsupp.single_eq_same, owed_sum]

/-- So the launch's credit is a credit for each exchange and for the barrier. -/
theorem creds (c : Dev nD) : (Pipeline.launchCred O₀ c : sProp 𝕄) ⊢ credits c := by
  unfold Pipeline.launchCred credits
  refine BIBase.Entails.trans (bigSep_subset (t := Finset.univ.map ⟨csem, csem_injective⟩) (Finset.subset_univ _)) ?_
  rw [bigSep_map]
  refine BIBase.Entails.trans (show _ ⊢ (bigSep Finset.univ fun k : Kd => crd c k (owed k) : sProp 𝕄) from
    Entails.of_eq (bigSep_congr fun k _ => congrArg _ (launch_cell c k))) ?_
  rw [bigSep_univ_sum, bigSep_univ_sum (fun o : Ok => crd c (.inr o) (owed (.inr o))), bigSep_univ_sum (fun o : Ex ⊕ Ex => crd c (.inr (.inr o)) (owed (.inr (.inr o)))),
    show (Finset.univ : Finset Unit) = {()} from rfl, bigSep_singleton]
  show iprop(crd c kBar 3 ∗ (bigSep Finset.univ fun k : Fin 11 => crd c (kCp k) 0) ∗ (bigSep Finset.univ fun e : Ex => crd c (kSnd e) 0)
      ∗ bigSep Finset.univ fun e : Ex => crd c (kRcv e) (nA e.1)) ⊢ _
  iintro ⟨Hb, -, -, Hr⟩
  isplitl [Hb]; · iexact Hb
  iexact Hr

/-! ## The theorem's side conditions -/

/-- What the launch deals a device is what it starts from. -/
theorem start_intro (c : Dev nD) (ρ : Dev nD → PrngReg) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none]
  iintro ⟨Ha, Hlev, Hcr, -, HG⟩
  ihave Hc := (creds (F := F) c) $$ Hcr
  ihave Ha := (args_intro m c) $$ Ha
  imodintro
  unfold start G'
  isplitl
  · isplitl [HG Hlev]
    · icases HG with ⟨%K, HR, Hl⟩
      iexists K
      isplitl [HR Hlev]
      · unfold records env
        icases HR with ⟨H1, H2⟩
        isplitl [H1]; · iexact H1
        isplitl [H2]; · iexact H2
        iexact Hlev
      iexact Hl
    isplitl [Hc]; · iexact Hc
    iexact Ha
  · iempintro

/-- With the scratch buffers it is what the body's invariant asks at the start. -/
theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl]
  unfold Φ₀
  iintro ⟨Hs, -, Hr⟩
  isplitl [Hs]; · iexact Hs
  iapply (held_intro c); iexact Hr

/-- What is kept to the end: the weights where they are copied from, and the barrier's counter at zero. -/
def kept (c : Dev nD) : sProp 𝕄 :=
  iprop(Pipeline.unscopedRest spec0 c (fun b => m ((c : Thread nD τ).loc b)) ∗ unscopedSems0 c)

/-- What the invariant says at the end gives back semaphores and scratch buffers, and what is kept. -/
theorem phi1_exit (c : Dev nD) :
    (dats m 0 c).Φ (Fin.last cfg0.N) ⊢ iprop(kept m c ∗ Pipeline.ownSems0 osem c ∗ Pipeline.scopedRest cfg0.spec c) := by
  rw [show (dats m 0 c).Φ (Fin.last cfg0.N) = Φ₁ m c from rfl]
  unfold Φ₁ kept
  rw [unscopedSems0_eq]
  iintro ⟨Hh, Ha, Hz, Hb⟩
  isplitl [Ha Hb]
  · isplitl [Ha]; · iapply (args_elim m c); iexact Ha
    iexact Hb
  isplitl [Hz]; · iapply (zeros_own c); iexact Hz
  iapply (held_elim c); iexact Hh

/-- The staging waits are below everything owed. -/
theorem waits (c : Dev nD) : (levAts L lv : sProp 𝕄) ⊢ Pipeline.cellsWaits cfgs (dats m) () 0 c :=
  Pipeline.cellsWaits_intro cfgs (dats m) () 0 c fun w s t =>
    mayWait_stage c _ (by
      show (match dec (.dma ((cfg0.spec w).sem s)) with | some k => lvK k | none => 0) = 0
      rw [stage_dec w s]) _ (by
      rcases t with ⟨_ | _, ht⟩
      · exact Or.inl rfl
      · exact Or.inr rfl)

/-! ## The run -/

/-- The arrays the windows address. -/
def finalA (c : Dev nD) (w : Fin cfg0.W) : Buf (Elt F) ((cfg0.win w).arr.view.loc (c : Thread nD τ)) := (dats m 0 c).arrAt w cfg0.N

/-- The final states: the windows' arrays as computed, the other arguments unchanged. -/
def QC : PUnit × MemSt nD τ sig (Elt F) → Prop := fun r =>
  ∀ c : Dev nD, (∀ w : Fin cfg0.W, r.2.mem ((cfg0.win w).arr.view.loc (c : Thread nD τ)) = finalA m c w)
    ∧ ∀ b ∈ (Finset.univ.filter fun b : Ref sig .tc => ¬ b.isScoped) \ Finset.univ.image (Pipeline.arrRef spec0), r.2.mem ((c : Thread nD τ).loc b) = m ((c : Thread nD τ).loc b)

/-- What is kept says that the barrier's counter is zero and the weights are as at launch. -/
theorem kept_read (c : Dev nD) (s' : Phys nD τ sig (Elt F)) :
    iprop(kept m c ∗ SI s') ⊢ |={Set.univ}=> iprop(⌜(∀ sm : SemLoc sig, sm.isScoped .tc = false → s'.mem.sem ((c.tc : Thread nD τ), sm) = 0)
        ∧ ∀ b ∈ (Finset.univ.filter fun b : Ref sig .tc => ¬ b.isScoped) \ Finset.univ.image (Pipeline.arrRef spec0), s'.mem.mem ((c : Thread nD τ).loc b) = m ((c : Thread nD τ).loc b)⌝
      ∗ SI (Lvl := ℕ) (U := UU) (Name := ℕ) (Ix := Unit) s') := by
  unfold kept Pipeline.unscopedRest
  iintro ⟨⟨Ha, Hs⟩, HSI⟩
  ihave Hr := (pointsTo_read_all' _ (fun b : Ref sig .tc => (c : Thread nD τ).loc b) (fun b => m ((c : Thread nD τ).loc b)) s' fun _ => fullShare) $$ [Ha HSI]
  · isplitl [Ha]; · iexact Ha
    iexact HSI
  icases Hr with ⟨%hb, HSI⟩
  imod (Pipeline.unscopedSems0_read (X := unscopedSems0 c) (c := c) fupd_intro s') $$ [Hs HSI] with ⟨%hs, HSI⟩
  · isplitl [Hs]; · iexact Hs
    iexact HSI
  imodintro
  isplitr; · (ipureintro; exact ⟨hs, hb⟩)
  iexact HSI

set_option maxRecDepth 8000 in
/-- Every fair execution from any memory with counters at zero ends, with the result computed, the arguments unchanged and
    the counters at zero. -/
theorem run_main (ρ : Dev nD → PrngReg) :
    θ_run defs (onTc (τ := τ) (main (F := F))) ⟨m, fun _ => 0, ρ⟩ (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (body_obligation m c).loose) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_mlp m) $$ HX with HG
      imodintro
      isplitl [HP] <;> iassumption)
    (hglob := glob m)
    (hA := fun _ _ => rfl) (hpf := fun _ k => k.elim0)
    (X := start m) (Y := kept m) (Z := fun _ => iprop(emp))
    (hX := fun c => start_intro m c ρ) (hin := phi0_intro m) (hout := phi1_exit m)
    (QY := fun c s => (∀ sm : SemLoc sig, sm.isScoped .tc = false → s.sem ((c.tc : Thread nD τ), sm) = 0)
      ∧ ∀ b ∈ (Finset.univ.filter fun b : Ref sig .tc => ¬ b.isScoped) \ Finset.univ.image (Pipeline.arrRef spec0), s.mem ((c : Thread nD τ).loc b) = m ((c : Thread nD τ).loc b))
    (hY := fun c s' => by
      iintro ⟨Hk, -, HSI⟩
      iapply (kept_read m c s')
      isplitl [Hk]; · iexact Hk
      iexact HSI)
    (hQ := fun _ h hs => ⟨fun c => ⟨(h c).1, (h c).2.2.2⟩, sem_eq_zero hs fun c => (h c).2.2.1⟩)

end Cert.Mlp

end
-- ==== Proof.Frames.lean ====
/-
# The frames

The kernel's run and the reference's, read at the arguments and at the semaphores' counters; and the kernel's result.
-/
module

public import proofs.«01_k».proof.Defs
public import proofs.«01_k».proof.Proof.Gen.Kernel
public import proofs.«01_k».proof.Proof.Gen.ReferenceIdeal
public import proofs.«01_k».proof.Proof.Gen.ReferenceIdeal.Run
public import proofs.«01_k».proof.Proof.Run

@[expose] public section

noncomputable section

namespace Cert.Mlp

open Cert.KernelIdeal Cert.KernelIdeal.Gen
open Idealize.ShloMosaic Idealize.ShloMosaic.TcCoe
open Idealize.SL.Sem

variable {F : FTy → Type} [FloatOps F]
variable (m : (ℓ : Loc nD τ sig) → Buf (Elt F) ℓ)

/-- The argument that is staged whole ends as it began. -/
theorem finalA_x (c : Dev nD) : finalA m c (0 : Fin 2) = m ((c.tc : Thread nD τ).loc main_arg0) :=
  (dats (F := F) m 0 c).arrAt_in (0 : Fin 2) rfl _

/-- The result is what the last layer leaves. -/
theorem finalA_out (c : Dev nD) : (win0_1.blk (0 : Fin 1)).view.read (Elt F) (finalA m c (1 : Fin 2)) = xV m 3 c := by
  unfold finalA
  rw [show cfg0.N = ((0 : Fin 1) : Fin cfg0.N).val + 1 from rfl, (dats m 0 c).arrAt_succ (1 : Fin 2) (0 : Fin 1)]
  rw [show (cfg0.win (1 : Fin 2)).flush (0 : Fin 1) = true from by decide, if_pos rfl]
  exact View.read_write_univ _ _

/-- What every final state holds of device `c`: the result as computed, and the seven arguments as they began. -/
def Ends (s : MemSt nD τ sig (Elt F)) (c : Dev nD) : Prop :=
  s.mem ((c.tc : Thread nD τ).loc main_v1) = finalA m c (1 : Fin 2)
  ∧ s.mem ((c.tc : Thread nD τ).loc main_arg0) = m ((c.tc : Thread nD τ).loc main_arg0)
  ∧ s.mem ((c.tc : Thread nD τ).loc main_arg1) = m ((c.tc : Thread nD τ).loc main_arg1)
  ∧ s.mem ((c.tc : Thread nD τ).loc main_arg2) = m ((c.tc : Thread nD τ).loc main_arg2)
  ∧ s.mem ((c.tc : Thread nD τ).loc main_arg3) = m ((c.tc : Thread nD τ).loc main_arg3)
  ∧ s.mem ((c.tc : Thread nD τ).loc main_arg4) = m ((c.tc : Thread nD τ).loc main_arg4)
  ∧ s.mem ((c.tc : Thread nD τ).loc main_arg5) = m ((c.tc : Thread nD τ).loc main_arg5)
  ∧ s.mem ((c.tc : Thread nD τ).loc main_arg6) = m ((c.tc : Thread nD τ).loc main_arg6)

/-- Every run of the kernel ends, on every device, as `Ends` says, with every semaphore's counter at zero. -/
theorem run_ends (ρ : Dev nD → PrngReg) :
    θ_run defs (onTc (τ := τ) (main (F := F))) ⟨m, fun _ => 0, ρ⟩ (fun r => (∀ c, Ends m r.2 c) ∧ r.2.sem = fun _ => 0) :=
  (θ_run defs _ _).mono (fun r h => ⟨fun c => ⟨(h.1 c).1 (1 : Fin 2), ((h.1 c).1 (0 : Fin 2)).trans (finalA_x m c),
      (h.1 c).2 main_arg1 (Pipeline.mem_restRefs_of main_arg1 (by decide) (by decide)), (h.1 c).2 main_arg2 (Pipeline.mem_restRefs_of main_arg2 (by decide) (by decide)),
      (h.1 c).2 main_arg3 (Pipeline.mem_restRefs_of main_arg3 (by decide) (by decide)), (h.1 c).2 main_arg4 (Pipeline.mem_restRefs_of main_arg4 (by decide) (by decide)),
      (h.1 c).2 main_arg5 (Pipeline.mem_restRefs_of main_arg5 (by decide) (by decide)), (h.1 c).2 main_arg6 (Pipeline.mem_restRefs_of main_arg6 (by decide) (by decide))⟩, h.2⟩)
    (run_main m ρ)

attribute [local instance] Cert.Kernel.Gen.facts Cert.KernelIdeal.Gen.facts Cert.ReferenceIdeal.Gen.facts

/-- The kernel over the extended reals ends without a fault, its arguments unchanged and its counters at zero. -/
theorem frame_ideal : Cert.quiescent_KernelIdeal := fun m ρ _ =>
  (θ_run Cert.KernelIdeal.defs _ _).mono (fun _ h => ⟨fun c => (h.1 c).2, h.2⟩) (run_ends (F := Ideal) m ρ)

/-! The kernel and its idealization are one text: what one's labels run, the other's do. -/

set_option maxRecDepth 100000 in
/-- The kernel and its idealization run one and the same body. -/
theorem rows_eq : Cert.Kernel.defs₀ (F := Bits) = defs₀ (F := Bits) := by
  unfold Cert.Kernel.defs₀ defs₀
  refine congrArg Defs.onTc ?_
  funext ℓ a
  obtain rfl : ℓ = 0 := Subsingleton.elim _ _
  exact rfl

set_option maxRecDepth 100000 in
/-- So their programs' labels run the same. -/
theorem table_eq : Cert.Kernel.defs (F := Bits) = defs (F := Bits) := by
  unfold Cert.Kernel.defs defs
  exact congrArg (Pipeline.defs _) rows_eq

/-- The kernel ends without a fault, its arguments unchanged and its counters at zero. -/
theorem frame_kernel : Cert.quiescent_Kernel := fun m ρ _ => by
  rw [table_eq]
  exact (θ_run Cert.KernelIdeal.defs _ _).mono (fun _ h => ⟨fun c => (h.1 c).2, h.2⟩) (run_ends (F := Bits) m ρ)

/-- The reference ends without a fault, its arguments unchanged; it has no semaphores. -/
theorem frame_reference : Cert.quiescent_ReferenceIdeal := fun m ρ _ =>
  (θ_run Cert.ReferenceIdeal.defs _ _).mono (fun r h => ⟨fun c => (h c).2, sem_eq_zero_of_no_sems rfl _⟩)
    (Cert.ReferenceIdeal.Value.run (F := Ideal) m ρ)

end Cert.Mlp

end
-- ==== Proof.Sums.lean ====
/-
# A layer over the extended reals

Read at the extended reals, where additions may be taken in any order and a change of format changes nothing, a layer on
eight devices is the layer of the whole arrays, cut: the three exchanges leave a chunk's sum over all the devices, that
sum and a device's 1024 positions make the whole contraction, and the six chunks make the second one.
-/
module

public import proofs.«01_k».proof.Proof.Values
public import Idealize.ShloMosaic.PureOps.Ideal
public import Idealize.ShloMosaic.PureOps.Ideal.Laws
public import Idealize.ShloMosaic.Lib.MatmulPlain
public import Idealize.ShloMosaic.Lib.StackMember
public import Idealize.ShloMosaic.Lib.Layout

@[expose] public section

noncomputable section

namespace Cert.Mlp

open Cert.KernelIdeal Cert.KernelIdeal.Gen
open Idealize.ShloMosaic Idealize.ShloMosaic.TcCoe Idealize.ShloMosaic.ValueIdx
open scoped BigOperators

/-! ## The eight devices' sum -/

/-- What a device's three exchanges visit, partner by partner, is every device once. -/
theorem visits (p : Fin 6) (c : Dev nD) :
    [c, tgt p 0 c, tgt p 1 c, tgt p 0 (tgt p 1 c), tgt p 2 c, tgt p 0 (tgt p 2 c), tgt p 1 (tgt p 2 c), tgt p 0 (tgt p 1 (tgt p 2 c))].Perm
      (List.finRange 8) := by
  revert p c; decide +kernel

/-- One exchange adds the partner's sum. -/
theorem sumV_succ_apply (p : Fin 6) (a : Dev nD → FVec Ideal (SAcc p) .bf16) (s : ℕ) (c : Dev nD) (i : (SAcc p).Idx) :
    sumV p a (s + 1) c i = (sumV p a s c i : EReal) + sumV p a s (tgt p (Fin.ofNat 3 s) c) i := by
  show shapeCast (SAcc p) _ (castAcc p) i = _
  rw [shapeCast_self]; rfl

/-- After the last exchange a device's sum and its partner's are the sum over the devices. -/
theorem sum_devices (p : Fin 6) (a : Dev nD → FVec Ideal (SAcc p) .bf16) (c : Dev nD) (i : (SAcc p).Idx) :
    (sumV p a 2 c i : EReal) + sumV p a 2 (tgt p 2 c) i = ∑ d : Dev nD, (a d i : EReal) := by
  have h := ((visits p c).map fun d => (a d i : EReal)).sum_eq
  have hu : (∑ d : Dev nD, (a d i : EReal)) = ((List.finRange 8).map fun d => (a d i : EReal)).sum := Fin.sum_univ_def _
  rw [hu, ← h]
  simp only [sumV_succ_apply, List.map_cons, List.map_nil, List.sum_cons, List.sum_nil, add_zero]
  show ((a c i : EReal) + a (tgt p 0 c) i) + (a (tgt p 1 c) i + a (tgt p 0 (tgt p 1 c)) i)
    + ((a (tgt p 2 c) i + a (tgt p 0 (tgt p 2 c)) i) + (a (tgt p 1 (tgt p 2 c)) i + a (tgt p 0 (tgt p 1 (tgt p 2 c))) i)) = _
  simp only [add_assoc]

/-! ## The products at an element -/

/-- A chunk's first product is a plain product of matrices. -/
theorem dotA_plain (p : Fin 6) : dotA p = DotDims.plain 64 1024 (wid p) := by fin_cases p <;> rfl
/-- So is its second. -/
theorem dotB_plain (p : Fin 6) : dotB p = DotDims.plain 64 (wid p) 1024 := by fin_cases p <;> rfl

/-- The zero that the products start from. -/
theorem zero_f32 : (FloatOps.ofBits (F := Ideal) .f32 0x00000000#32 : EReal) = 0 := Ideal.ofBits_zero_f32
/-- The zero that the hidden layer is clamped at. -/
theorem zero_bf16 : (FloatOps.ofBits (F := Ideal) .bf16 0x0000#16 : EReal) = 0 := by
  show Ideal.ofBits .bf16 0x0000#16 = 0
  simp [Ideal.ofBits, Ideal.ieee]

/-- An element of a partial product. -/
theorem part_apply (p : Fin 6) (x : FVec Ideal S64x1024 .f32) (w : FVec Ideal (SCol p) .f32) (r : Fin 64) (j : Fin (wid p)) :
    (part p x w (ix2 r j) : EReal) = ∑ k : Fin 1024, (x (ix2 r k) : EReal) * w (ix2 k j) := by
  unfold part
  rw [shapeCast_self]
  show (FloatOps.matmul (dotA p) none x w (constant (SAcc p) .f32 0x00000000#32) (ix2 r j) : EReal) = _
  rw [dotA_plain, Ideal.matmul_plain_apply]
  show (FloatOps.ofBits (F := Ideal) .f32 0x00000000#32 : EReal) + _ = _
  rw [zero_f32, zero_add]

/-- Where chunk `p`'s element lies in the 2048 columns. -/
theorem off_lt (p : Fin 6) (j : Fin (wid p)) : off p + j.val < 2048 := by
  have := j.isLt; revert j; fin_cases p <;> (intro j _; have := j.isLt; simp only [off, wid] at *; omega)

/-- An element of a first weight's chunk is that of the weight, `off p` columns on. -/
theorem colOf_apply (p : Fin 6) (w : FVec Ideal S1024x2048 .f32) (k : Fin 1024) (j : Fin (wid p)) :
    colOf p w (ix2 k j) = w (ix2 k ⟨off p + j.val, off_lt p j⟩) := by
  refine congrArg w (funext fun a => Fin.ext ?_)
  match a with
  | ⟨0, _⟩ => show 0 + 1 * k.val = k.val; omega
  | ⟨1, _⟩ => show off p + 1 * j.val = off p + j.val; omega

/-- An element of a second weight's chunk is that of the weight, `off p` rows on. -/
theorem rowOf_apply (p : Fin 6) (v : FVec Ideal S2048x1024 .f32) (j : Fin (wid p)) (l : Fin 1024) :
    rowOf p v (ix2 j l) = v (ix2 ⟨off p + j.val, off_lt p j⟩ l) := by
  refine congrArg v (funext fun a => Fin.ext ?_)
  match a with
  | ⟨0, _⟩ => show off p + 1 * j.val = off p + j.val; omega
  | ⟨1, _⟩ => show 0 + 1 * l.val = l.val; omega

/-- An element of the hidden layer: the devices' contractions added, and clamped. -/
def hidE (x : Dev nD → FVec Ideal S64x1024 .f32) (w : Dev nD → FVec Ideal S1024x2048 .f32) (r : Fin 64) (j : Fin 2048) : EReal :=
  max (∑ d : Dev nD, ∑ k : Fin 1024, (x d (ix2 r k) : EReal) * w d (ix2 k j)) 0

/-- A chunk's element of the hidden layer, on any device, is the whole layer's element at its place. -/
theorem hidC_apply (p : Fin 6) (x : Dev nD → FVec Ideal S64x1024 .f32) (w : Dev nD → FVec Ideal S1024x2048 .f32) (c : Dev nD)
    (r : Fin 64) (j : Fin (wid p)) : (hidC p x w c (ix2 r j) : EReal) = hidE x w r ⟨off p + j.val, off_lt p j⟩ := by
  show max ((sumV p (partV p x w) 2 c (ix2 r j) : EReal) + sumV p (partV p x w) 2 (tgt p 2 c) (ix2 r j))
    (FloatOps.ofBits (F := Ideal) .bf16 0x0000#16 : EReal) = _
  rw [sum_devices, zero_bf16]
  unfold hidE
  refine congrArg (max · 0) (Finset.sum_congr rfl fun d _ => ?_)
  unfold partV
  rw [part_apply]
  exact Finset.sum_congr rfl fun k _ => by rw [colOf_apply]

/-! ## The six chunks -/

/-- A function of the 2048 positions, at any natural number. -/
def ext (g : Fin 2048 → EReal) (n : ℕ) : EReal := if h : n < 2048 then g ⟨n, h⟩ else 0

/-- At one of the positions it is the function. -/
theorem ext_of (g : Fin 2048 → EReal) (n : ℕ) (h : n < 2048) : ext g n = g ⟨n, h⟩ := dif_pos h

/-- Where the first `n` chunks end. -/
def upTo (n : ℕ) : ℕ := if h : n < 6 then off ⟨n, h⟩ else 2048

/-- Each chunk ends its width after its start. -/
theorem upTo_succ (n : ℕ) (h : n < 6) : upTo (n + 1) = off ⟨n, h⟩ + wid ⟨n, h⟩ := by
  interval_cases n <;> rfl

/-- After `n` chunks an element of the second product is the contraction over their positions. -/
theorem accV_apply (x : Dev nD → FVec Ideal S64x1024 .f32) (w : Dev nD → FVec Ideal S1024x2048 .f32)
    (v : Dev nD → FVec Ideal S2048x1024 .f32) (c : Dev nD) (r : Fin 64) (l : Fin 1024) : ∀ (n : ℕ) (h : n ≤ 6),
    (accV x w v c n h (ix2 r l) : EReal)
      = ∑ t ∈ Finset.range (upTo n), ext (fun j => hidE x w r j * (v c (ix2 j l) : EReal)) t
  | 0, h => by
    show (FloatOps.ofBits (F := Ideal) .f32 0x00000000#32 : EReal) = _
    rw [zero_f32, show upTo 0 = 0 from rfl, Finset.range_zero, Finset.sum_empty]
  | n + 1, h => by
    have hn : n < 6 := h
    rw [upTo_succ n hn, Finset.sum_range_add]
    show (accV x w v c n (Nat.le_of_succ_le h) (ix2 r l) : EReal)
      + (FloatOps.matmul (dotB ⟨n, h⟩) none (hidC ⟨n, h⟩ x w c) (rowOf ⟨n, h⟩ (v c)) (constant S64x1024 .f32 0x00000000#32) (ix2 r l) : EReal) = _
    rw [accV_apply x w v c r l n (Nat.le_of_succ_le h), show upTo n = off ⟨n, hn⟩ from dif_pos hn]
    refine congrArg _ ?_
    rw [dotB_plain, Ideal.matmul_plain_apply]
    show (FloatOps.ofBits (F := Ideal) .f32 0x00000000#32 : EReal) + _ = _
    rw [zero_f32, zero_add, Finset.sum_range]
    refine Finset.sum_congr rfl fun j _ => ?_
    rw [hidC_apply, rowOf_apply]
    exact (ext_of (fun j => hidE x w r j * (v c (ix2 j l) : EReal)) _ (off_lt ⟨n, hn⟩ j)).symm

/-- An element of a layer. -/
theorem layer_apply (x : Dev nD → FVec Ideal S64x1024 .f32) (w : Dev nD → FVec Ideal S1024x2048 .f32)
    (v : Dev nD → FVec Ideal S2048x1024 .f32) (c : Dev nD) (r : Fin 64) (l : Fin 1024) :
    (layer x w v c (ix2 r l) : EReal) = ∑ j : Fin 2048, hidE x w r j * (v c (ix2 j l) : EReal) := by
  unfold layer
  rw [accV_apply, show upTo 6 = 2048 from rfl, Finset.sum_range]
  exact Finset.sum_congr rfl fun j _ => ext_of _ _ j.isLt

/-! ## The whole arrays' layer -/

/-- A layer of the whole arrays: the product with the first weight, clamped below at zero, times the second weight. -/
def whole (X : FVec Ideal ⟨2, ![64, 8192]⟩ .f32) (W : FVec Ideal ⟨2, ![8192, 2048]⟩ .f32) (V : FVec Ideal ⟨2, ![2048, 8192]⟩ .f32) :
    FVec Ideal ⟨2, ![64, 8192]⟩ .f32 :=
  Host.dotGeneral (DotDims.plain 64 2048 8192) none
    (maximumf (Host.dotGeneral (DotDims.plain 64 8192 2048) none X W : FVec Ideal ⟨2, ![64, 2048]⟩ .f32)
      (fun _ => FloatOps.ofBits .f32 0x00000000#32)) V

/-- An element of it. -/
theorem whole_apply (X : FVec Ideal ⟨2, ![64, 8192]⟩ .f32) (W : FVec Ideal ⟨2, ![8192, 2048]⟩ .f32) (V : FVec Ideal ⟨2, ![2048, 8192]⟩ .f32)
    (r : Fin 64) (q : Fin 8192) : (whole X W V (ix2 r q) : EReal)
      = ∑ j : Fin 2048, max (∑ k : Fin 8192, (X (ix2 r k) : EReal) * W (ix2 k j)) 0 * (V (ix2 j q) : EReal) := by
  unfold whole
  rw [StackMember.dotGeneral_plain_apply]
  refine Finset.sum_congr rfl fun j _ => ?_
  refine congrArg (· * (V (ix2 j q) : EReal)) ?_
  show max (Host.dotGeneral (DotDims.plain 64 8192 2048) none X W (ix2 r j) : EReal) (FloatOps.ofBits (F := Ideal) .f32 0x00000000#32 : EReal) = _
  rw [StackMember.dotGeneral_plain_apply, zero_f32]

/-- Position `k` of device `d`'s 1024 among all 8192. -/
def at8 (d : Dev nD) (k : Fin 1024) : Fin 8192 := ⟨d.val * 1024 + k.val, by
  have h : d.val < 8 := d.isLt
  have := k.isLt; omega⟩

/-- The devices' positions, device by device, are all the positions. -/
theorem sum_blocks (f : Fin 8192 → EReal) : ∑ d : Dev nD, ∑ k : Fin 1024, f (at8 d k) = ∑ q : Fin 8192, f q := by
  rw [← Equiv.sum_comp (finProdFinEquiv : Fin 8 × Fin 1024 ≃ Fin (8 * 1024)) f, Fintype.sum_prod_type]
  refine Finset.sum_congr rfl fun d _ => Finset.sum_congr rfl fun k _ => congrArg f (Fin.ext ?_)
  show d.val * 1024 + k.val = k.val + 1024 * d.val
  omega

/-- An element of a device's block of columns. -/
theorem block_cols {n : ℕ} (X : FVec Ideal ⟨2, ![n, 8192]⟩ .f32) (c : Dev nD) (r : Fin n) (k : Fin 1024)
    (h : Layout.Tiles ⟨2, ![n, 1024]⟩ ⟨2, ![n, 8192]⟩ 1 8) :
    Layout.block ⟨2, ![n, 1024]⟩ ⟨2, ![n, 8192]⟩ 1 8 c X h (ix2 r k) = X (ix2 r (at8 c k)) := by
  refine congrArg X (funext fun a => Fin.ext ?_)
  match a with
  | ⟨0, _⟩ => exact (Layout.idx_cols_val h c (ix2 r k)).1
  | ⟨1, _⟩ => exact (Layout.idx_cols_val h c (ix2 r k)).2

/-- An element of a device's block of rows. -/
theorem block_rows {n : ℕ} (W : FVec Ideal ⟨2, ![8192, n]⟩ .f32) (c : Dev nD) (k : Fin 1024) (j : Fin n)
    (h : Layout.Tiles ⟨2, ![1024, n]⟩ ⟨2, ![8192, n]⟩ 0 8) :
    Layout.block ⟨2, ![1024, n]⟩ ⟨2, ![8192, n]⟩ 0 8 c W h (ix2 k j) = W (ix2 (at8 c k) j) := by
  refine congrArg W (funext fun a => Fin.ext ?_)
  match a with
  | ⟨0, _⟩ => exact (Layout.idx_rows_val h c (ix2 k j)).1
  | ⟨1, _⟩ => exact (Layout.idx_rows_val h c (ix2 k j)).2

/-- **A layer of the devices' blocks is the blocks of the whole arrays' layer.** -/
theorem layer_blocks (X : FVec Ideal ⟨2, ![64, 8192]⟩ .f32) (W : FVec Ideal ⟨2, ![8192, 2048]⟩ .f32) (V : FVec Ideal ⟨2, ![2048, 8192]⟩ .f32) :
    layer (fun c => Layout.block ⟨2, ![64, 1024]⟩ ⟨2, ![64, 8192]⟩ 1 8 c X) (fun c => Layout.block ⟨2, ![1024, 2048]⟩ ⟨2, ![8192, 2048]⟩ 0 8 c W)
        (fun c => Layout.block ⟨2, ![2048, 1024]⟩ ⟨2, ![2048, 8192]⟩ 1 8 c V)
      = fun c => Layout.block ⟨2, ![64, 1024]⟩ ⟨2, ![64, 8192]⟩ 1 8 c (whole X W V) := by
  funext c i
  obtain ⟨r, l, rfl⟩ : ∃ (r : Fin 64) (l : Fin 1024), i = ix2 r l := ⟨i 0, i 1, eq_ix2 i⟩
  rw [block_cols, whole_apply]
  refine (layer_apply _ _ _ c r l).trans (Finset.sum_congr rfl fun j _ => ?_)
  rw [block_cols]
  refine congrArg (· * (V (ix2 j (at8 c l)) : EReal)) ?_
  unfold hidE
  refine congrArg (max · 0) ?_
  rw [← sum_blocks]
  exact Finset.sum_congr rfl fun d _ => Finset.sum_congr rfl fun k _ => by
    show (Layout.block ⟨2, ![64, 1024]⟩ ⟨2, ![64, 8192]⟩ 1 8 d X (by decide) (ix2 r k) : EReal)
      * Layout.block ⟨2, ![1024, 2048]⟩ ⟨2, ![8192, 2048]⟩ 0 8 d W (by decide) (ix2 k j) = _
    rw [block_cols, block_rows]

end Cert.Mlp

end
-- ==== Proof.Value.lean ====
/-
# The value of the result

The three layers of the kernel on the devices' blocks are the blocks of the reference's three layers.
-/
module

public import proofs.«01_k».proof.Defs
public import proofs.«01_k».proof.Proof.Frames
public import proofs.«01_k».proof.Proof.Sums

@[expose] public section

noncomputable section

namespace Cert.Mlp

open Cert.KernelIdeal Cert.KernelIdeal.Gen
open Idealize.ShloMosaic Idealize.ShloMosaic.TcCoe
open Idealize.SL.Sem

/-! ## The whole windows -/

section Windows

variable {F : FTy → Type} [FloatOps F]
variable (m : (ℓ : Loc nD τ sig) → Buf (Elt F) ℓ)

/-- The staged argument is one whole window. -/
theorem win_x (v : main_arg0.ty.Contents (Elt F)) : (win0_0.blk (0 : Fin 1)).view.read (Elt F) v = v := by
  funext i
  refine congrArg v (funext fun a => Fin.ext ?_)
  match a with
  | ⟨0, _⟩ => exact (Nat.zero_add _).trans (Nat.one_mul _)
  | ⟨1, _⟩ => exact (Nat.zero_add _).trans (Nat.one_mul _)

/-- The result is one whole window. -/
theorem win_out (v : main_v1.ty.Contents (Elt F)) : (win0_1.blk (0 : Fin 1)).view.read (Elt F) v = v := by
  funext i
  refine congrArg v (funext fun a => Fin.ext ?_)
  match a with
  | ⟨0, _⟩ => exact (Nat.zero_add _).trans (Nat.one_mul _)
  | ⟨1, _⟩ => exact (Nat.zero_add _).trans (Nat.one_mul _)

/-- So the result holds what the last layer leaves. -/
theorem out_eq (c : Dev nD) : finalA m c (1 : Fin 2) = xV m 3 c := (win_out _).symm.trans (finalA_out m c)

/-- The first layer's input is the argument. -/
theorem xV_zero (c : Dev nD) : xV m 0 c = m ((c.tc : Thread nD τ).loc main_arg0) := by
  show inp (xstg m c) = _
  unfold inp
  rw [shapeCast_self]
  exact win_x _

end Windows

/-! ## Three layers -/

attribute [local instance] Cert.Kernel.Gen.facts Cert.KernelIdeal.Gen.facts Cert.ReferenceIdeal.Gen.facts

/-- The reference's result, from its arguments: three layers. -/
def target (m' : (ℓ : Loc Cert.ReferenceIdeal.nD Cert.ReferenceIdeal.τ Cert.ReferenceIdeal.sig) → Buf (Elt Ideal) ℓ) :
    FVec Ideal ⟨2, ![64, 8192]⟩ .f32 :=
  whole (whole (whole
    (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1))
    (m' (((0 : Dev Cert.ReferenceIdeal.nD).tc : Thread Cert.ReferenceIdeal.nD Cert.ReferenceIdeal.τ).loc Cert.ReferenceIdeal.main_arg4)))
    (m' (((0 : Dev Cert.ReferenceIdeal.nD).tc : Thread Cert.ReferenceIdeal.nD Cert.ReferenceIdeal.τ).loc Cert.ReferenceIdeal.main_arg2))
    (m' (((0 : Dev Cert.ReferenceIdeal.nD).tc : Thread Cert.ReferenceIdeal.nD Cert.ReferenceIdeal.τ).loc Cert.ReferenceIdeal.main_arg5)))
    (m' (((0 : Dev Cert.ReferenceIdeal.nD).tc : Thread Cert.ReferenceIdeal.nD Cert.ReferenceIdeal.τ).loc Cert.ReferenceIdeal.main_arg3))
    (m' (((0 : Dev Cert.ReferenceIdeal.nD).tc : Thread Cert.ReferenceIdeal.nD Cert.ReferenceIdeal.τ).loc Cert.ReferenceIdeal.main_arg6))

/-- From devices that hold their blocks of a layer's input and weights, a layer leaves the blocks of the whole arrays' layer. -/
theorem step (m : (ℓ : Loc nD τ sig) → Buf (Elt Ideal) ℓ) (l : Fin 3) (X : FVec Ideal ⟨2, ![64, 8192]⟩ .f32) (W : FVec Ideal ⟨2, ![8192, 2048]⟩ .f32)
    (V : FVec Ideal ⟨2, ![2048, 8192]⟩ .f32) (hX : xV m l.castSucc = fun c => Layout.block ⟨2, ![64, 1024]⟩ ⟨2, ![64, 8192]⟩ 1 8 c X)
    (hW : wIn m l = fun c => Layout.block ⟨2, ![1024, 2048]⟩ ⟨2, ![8192, 2048]⟩ 0 8 c W)
    (hV : wOut m l = fun c => Layout.block ⟨2, ![2048, 1024]⟩ ⟨2, ![2048, 8192]⟩ 1 8 c V) :
    xV m l.succ = fun c => Layout.block ⟨2, ![64, 1024]⟩ ⟨2, ![64, 8192]⟩ 1 8 c (whole X W V) := by
  rw [xV_succ, hX, hW, hV, layer_blocks]

/-- **The kernel's result on each device is its block of the reference's.** -/
theorem value : Cert.algebraic_KernelIdeal_ReferenceIdeal := fun m g m' g' _ hm => by
  have h1 := step m 0 _ _ _ (funext fun c => (xV_zero m c).trans (hm c).1) (funext fun c => (hm c).2.1) (funext fun c => (hm c).2.2.2.2.1)
  have h2 := step m 1 _ _ _ h1 (funext fun c => (hm c).2.2.1) (funext fun c => (hm c).2.2.2.2.2.1)
  have h3 := step m 2 _ _ _ h2 (funext fun c => (hm c).2.2.2.1) (funext fun c => (hm c).2.2.2.2.2.2)
  refine ⟨target m', ?_, ?_⟩
  · exact (θ_run Cert.KernelIdeal.defs _ _).mono
      (fun _ h c => ⟨(h.1 c).1.trans ((out_eq m c).trans (congrFun h3 c)), (h.1 c).2⟩) (run_ends (F := Ideal) m g)
  · exact (θ_run Cert.ReferenceIdeal.defs _ _).mono
      (fun _ h => ⟨(h 0).1.trans rfl, (h 0).2⟩) (Cert.ReferenceIdeal.Value.run (F := Ideal) m' g')

end Cert.Mlp

end
-- ==== Proof.lean ====
/-
# The proof of the certificate

The three frames, and the value of the result against the reference's.
-/
module

public import proofs.«01_k».proof.Defs
public import proofs.«01_k».proof.Proof.Frames
public import proofs.«01_k».proof.Proof.Value

@[expose] public section

noncomputable section

namespace Cert.Proof

/-- Every claim of the certificate. -/
theorem claim : Cert.Claim :=
  ⟨Cert.Kernel.Gen.facts, Cert.KernelIdeal.Gen.facts, Cert.ReferenceIdeal.Gen.facts,
    Cert.Mlp.frame_kernel, Cert.Mlp.frame_ideal, Cert.Mlp.frame_reference, trivial, Cert.Mlp.value⟩

end Cert.Proof

end
